-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x1792x40x64 : Shape := ⟨4, ![1, 1792, 40, 64]⟩
abbrev S1x1792x40 : Shape := ⟨3, ![1, 1792, 40]⟩
abbrev S1x1792x40x128 : Shape := ⟨4, ![1, 1792, 40, 128]⟩
abbrev S1x40x128x64 : Shape := ⟨4, ![1, 40, 128, 64]⟩
abbrev S_ : Shape := ⟨0, ![]⟩

class Facts : Prop where
  natLt_8_32 : 8 < 32
  bcast_S_S1x1792x40x64 : S_.BroadcastsInDim S1x1792x40x64 (![] : Fin 0 → Fin S1x1792x40x64.rank)
  reducesTo_S1x1792x40x64_S_d0_1_2_3 : S1x1792x40x64.ReducesTo [0, 1, 2, 3] S_
  h_S_ : 0 < S_.numel
  bcast_S_S1x1792x40x128 : S_.BroadcastsInDim S1x1792x40x128 (![] : Fin 0 → Fin S1x1792x40x128.rank)
  reducesTo_S1x1792x40x128_S_d0_1_2_3 : S1x1792x40x128.ReducesTo [0, 1, 2, 3] S_
  bcast_S_S1x1792x40 : S_.BroadcastsInDim S1x1792x40 (![] : Fin 0 → Fin S1x1792x40.rank)
  reducesTo_S1x1792x40_S_d0_1_2 : S1x1792x40.ReducesTo [0, 1, 2] S_
  bcast_S_S1x40x128x64 : S_.BroadcastsInDim S1x40x128x64 (![] : Fin 0 → Fin S1x40x128x64.rank)
  reducesTo_S1x40x128x64_S_d0_1_2_3 : S1x40x128x64.ReducesTo [0, 1, 2, 3] S_

variable [Facts]

def fn_part4 {F : FTy → Type} [FloatOps F] (main_v64 : IVec S_ 1) (main_v65 : FVec F S1x40x128x64 .f32) (main_v66 : FVec F S1x40x128x64 .f32) : IVec S_ 1 :=
  let main_v67 : IVec S1x40x128x64 1 := cmpf .olt main_v65 main_v66
  let main_c_27 : IVec S_ 1 := constantI S_ 1 1#1
  let main_v68 : IVec S_ 1 := (fun x v => Host.reduce IntOp.andi x v reducesTo_S1x40x128x64_S_d0_1_2_3 h_S_) main_v67 main_c_27
  let main_v69 : IVec S_ 1 := andi main_v64 main_v68
  main_v69

def fn_part3 {F : FTy → Type} [FloatOps F] (main_arg7 : FVec F S1x1792x40 .f32) (main_arg9 : FVec F S1x1792x40 .f32) (main_arg10 : FVec F S1x1792x40x64 .f32) (main_arg11 : FVec F S1x40x128x64 .f32) (main_v49 : IVec S_ 1) : IVec S_ 1 :=
  let main_v50 : FVec F S1x1792x40 .f32 := Host.absf main_arg7
  let main_cst_20 : FVec F S_ .f32 := constant S_ .f32 0x7F800000#32
  let main_v51 : FVec F S1x1792x40 .f32 := broadcastInDim S1x1792x40 ![] bcast_S_S1x1792x40 main_cst_20
  let main_v52 : IVec S1x1792x40 1 := cmpf .olt main_v50 main_v51
  let main_c_21 : IVec S_ 1 := constantI S_ 1 1#1
  let main_v53 : IVec S_ 1 := (fun x v => Host.reduce IntOp.andi x v reducesTo_S1x1792x40_S_d0_1_2 h_S_) main_v52 main_c_21
  let main_v54 : IVec S_ 1 := andi main_v49 main_v53
  let main_v55 : FVec F S1x1792x40 .f32 := Host.absf main_arg9
  let main_cst_22 : FVec F S_ .f32 := constant S_ .f32 0x7F800000#32
  let main_v56 : FVec F S1x1792x40 .f32 := broadcastInDim S1x1792x40 ![] bcast_S_S1x1792x40 main_cst_22
  let main_v57 : IVec S1x1792x40 1 := cmpf .olt main_v55 main_v56
  let main_c_23 : IVec S_ 1 := constantI S_ 1 1#1
  let main_v58 : IVec S_ 1 := (fun x v => Host.reduce IntOp.andi x v reducesTo_S1x1792x40_S_d0_1_2 h_S_) main_v57 main_c_23
  let main_v59 : IVec S_ 1 := andi main_v54 main_v58
  let main_v60 : FVec F S1x1792x40x64 .f32 := Host.absf main_arg10
  let main_cst_24 : FVec F S_ .f32 := constant S_ .f32 0x7F800000#32
  let main_v61 : FVec F S1x1792x40x64 .f32 := broadcastInDim S1x1792x40x64 ![] bcast_S_S1x1792x40x64 main_cst_24
  let main_v62 : IVec S1x1792x40x64 1 := cmpf .olt main_v60 main_v61
  let main_c_25 : IVec S_ 1 := constantI S_ 1 1#1
  let main_v63 : IVec S_ 1 := (fun x v => Host.reduce IntOp.andi x v reducesTo_S1x1792x40x64_S_d0_1_2_3 h_S_) main_v62 main_c_25
  let main_v64 : IVec S_ 1 := andi main_v59 main_v63
  let main_v65 : FVec F S1x40x128x64 .f32 := Host.absf main_arg11
  let main_cst_26 : FVec F S_ .f32 := constant S_ .f32 0x7F800000#32
  let main_v66 : FVec F S1x40x128x64 .f32 := broadcastInDim S1x40x128x64 ![] bcast_S_S1x40x128x64 main_cst_26
  fn_part4 (F := F) main_v64 main_v65 main_v66

def fn_part2 {F : FTy → Type} [FloatOps F] (main_arg1 : FVec F S1x1792x40 .f32) (main_arg3 : FVec F S1x1792x40 .f32) (main_arg5 : FVec F S1x1792x40 .f32) (main_arg7 : FVec F S1x1792x40 .f32) (main_arg9 : FVec F S1x1792x40 .f32) (main_arg10 : FVec F S1x1792x40x64 .f32) (main_arg11 : FVec F S1x40x128x64 .f32) (main_v27 : IVec S_ 1) (main_v32 : IVec S1x1792x40x64 1) : IVec S_ 1 :=
  let main_c_14 : IVec S_ 1 := constantI S_ 1 1#1
  let main_v33 : IVec S_ 1 := (fun x v => Host.reduce IntOp.andi x v reducesTo_S1x1792x40x64_S_d0_1_2_3 h_S_) main_v32 main_c_14
  let main_v34 : IVec S_ 1 := andi main_v27 main_v33
  let main_v35 : FVec F S1x1792x40 .f32 := Host.absf main_arg1
  let main_cst : FVec F S_ .f32 := constant S_ .f32 0x7F800000#32
  let main_v36 : FVec F S1x1792x40 .f32 := broadcastInDim S1x1792x40 ![] bcast_S_S1x1792x40 main_cst
  let main_v37 : IVec S1x1792x40 1 := cmpf .olt main_v35 main_v36
  let main_c_15 : IVec S_ 1 := constantI S_ 1 1#1
  let main_v38 : IVec S_ 1 := (fun x v => Host.reduce IntOp.andi x v reducesTo_S1x1792x40_S_d0_1_2 h_S_) main_v37 main_c_15
  let main_v39 : IVec S_ 1 := andi main_v34 main_v38
  let main_v40 : FVec F S1x1792x40 .f32 := Host.absf main_arg3
  let main_cst_16 : FVec F S_ .f32 := constant S_ .f32 0x7F800000#32
  let main_v41 : FVec F S1x1792x40 .f32 := broadcastInDim S1x1792x40 ![] bcast_S_S1x1792x40 main_cst_16
  let main_v42 : IVec S1x1792x40 1 := cmpf .olt main_v40 main_v41
  let main_c_17 : IVec S_ 1 := constantI S_ 1 1#1
  let main_v43 : IVec S_ 1 := (fun x v => Host.reduce IntOp.andi x v reducesTo_S1x1792x40_S_d0_1_2 h_S_) main_v42 main_c_17
  let main_v44 : IVec S_ 1 := andi main_v39 main_v43
  let main_v45 : FVec F S1x1792x40 .f32 := Host.absf main_arg5
  let main_cst_18 : FVec F S_ .f32 := constant S_ .f32 0x7F800000#32
  let main_v46 : FVec F S1x1792x40 .f32 := broadcastInDim S1x1792x40 ![] bcast_S_S1x1792x40 main_cst_18
  let main_v47 : IVec S1x1792x40 1 := cmpf .olt main_v45 main_v46
  let main_c_19 : IVec S_ 1 := constantI S_ 1 1#1
  let main_v48 : IVec S_ 1 := (fun x v => Host.reduce IntOp.andi x v reducesTo_S1x1792x40_S_d0_1_2 h_S_) main_v47 main_c_19
  let main_v49 : IVec S_ 1 := andi main_v44 main_v48
  fn_part3 (F := F) main_arg7 main_arg9 main_arg10 main_arg11 main_v49

def fn_part1 {F : FTy → Type} [FloatOps F] (main_arg1 : FVec F S1x1792x40 .f32) (main_arg3 : FVec F S1x1792x40 .f32) (main_arg5 : FVec F S1x1792x40 .f32) (main_arg6 : IVec S1x1792x40x64 8) (main_arg7 : FVec F S1x1792x40 .f32) (main_arg8 : IVec S1x1792x40x64 8) (main_arg9 : FVec F S1x1792x40 .f32) (main_arg10 : FVec F S1x1792x40x64 .f32) (main_arg11 : FVec F S1x40x128x64 .f32) (main_v13 : IVec S_ 1) (main_v14 : IVec S1x1792x40x128 32) (main_v15 : IVec S1x1792x40x128 32) : IVec S_ 1 :=
  let main_v16 : IVec S1x1792x40x128 32 := andi main_v14 main_v15
  let main_c_7 : IVec S_ 32 := constantI S_ 32 127#32
  let main_v17 : IVec S1x1792x40x128 32 := broadcastInDim S1x1792x40x128 ![] bcast_S_S1x1792x40x128 main_c_7
  let main_v18 : IVec S1x1792x40x128 1 := cmpi .ne main_v16 main_v17
  let main_c_8 : IVec S_ 1 := constantI S_ 1 1#1
  let main_v19 : IVec S_ 1 := (fun x v => Host.reduce IntOp.andi x v reducesTo_S1x1792x40x128_S_d0_1_2_3 h_S_) main_v18 main_c_8
  let main_v20 : IVec S_ 1 := andi main_v13 main_v19
  let main_v21 : IVec S1x1792x40x64 32 := (extsi 32 · natLt_8_32) main_arg6
  let main_c_9 : IVec S_ 32 := constantI S_ 32 127#32
  let main_v22 : IVec S1x1792x40x64 32 := broadcastInDim S1x1792x40x64 ![] bcast_S_S1x1792x40x64 main_c_9
  let main_v23 : IVec S1x1792x40x64 32 := andi main_v21 main_v22
  let main_c_10 : IVec S_ 32 := constantI S_ 32 127#32
  let main_v24 : IVec S1x1792x40x64 32 := broadcastInDim S1x1792x40x64 ![] bcast_S_S1x1792x40x64 main_c_10
  let main_v25 : IVec S1x1792x40x64 1 := cmpi .ne main_v23 main_v24
  let main_c_11 : IVec S_ 1 := constantI S_ 1 1#1
  let main_v26 : IVec S_ 1 := (fun x v => Host.reduce IntOp.andi x v reducesTo_S1x1792x40x64_S_d0_1_2_3 h_S_) main_v25 main_c_11
  let main_v27 : IVec S_ 1 := andi main_v20 main_v26
  let main_v28 : IVec S1x1792x40x64 32 := (extsi 32 · natLt_8_32) main_arg8
  let main_c_12 : IVec S_ 32 := constantI S_ 32 127#32
  let main_v29 : IVec S1x1792x40x64 32 := broadcastInDim S1x1792x40x64 ![] bcast_S_S1x1792x40x64 main_c_12
  let main_v30 : IVec S1x1792x40x64 32 := andi main_v28 main_v29
  let main_c_13 : IVec S_ 32 := constantI S_ 32 127#32
  let main_v31 : IVec S1x1792x40x64 32 := broadcastInDim S1x1792x40x64 ![] bcast_S_S1x1792x40x64 main_c_13
  let main_v32 : IVec S1x1792x40x64 1 := cmpi .ne main_v30 main_v31
  fn_part2 (F := F) main_arg1 main_arg3 main_arg5 main_arg7 main_arg9 main_arg10 main_arg11 main_v27 main_v32

def fn {F : FTy → Type} [FloatOps F] (main_arg0 : IVec S1x1792x40x64 8) (main_arg1 : FVec F S1x1792x40 .f32) (main_arg2 : IVec S1x1792x40x64 8) (main_arg3 : FVec F S1x1792x40 .f32) (main_arg4 : IVec S1x1792x40x128 8) (main_arg5 : FVec F S1x1792x40 .f32) (main_arg6 : IVec S1x1792x40x64 8) (main_arg7 : FVec F S1x1792x40 .f32) (main_arg8 : IVec S1x1792x40x64 8) (main_arg9 : FVec F S1x1792x40 .f32) (main_arg10 : FVec F S1x1792x40x64 .f32) (main_arg11 : FVec F S1x40x128x64 .f32) : IVec S_ 1 :=
  let main_v0 : IVec S1x1792x40x64 32 := (extsi 32 · natLt_8_32) main_arg0
  let main_c : IVec S_ 32 := constantI S_ 32 127#32
  let main_v1 : IVec S1x1792x40x64 32 := broadcastInDim S1x1792x40x64 ![] bcast_S_S1x1792x40x64 main_c
  let main_v2 : IVec S1x1792x40x64 32 := andi main_v0 main_v1
  let main_c_0 : IVec S_ 32 := constantI S_ 32 127#32
  let main_v3 : IVec S1x1792x40x64 32 := broadcastInDim S1x1792x40x64 ![] bcast_S_S1x1792x40x64 main_c_0
  let main_v4 : IVec S1x1792x40x64 1 := cmpi .ne main_v2 main_v3
  let main_c_1 : IVec S_ 1 := constantI S_ 1 1#1
  let main_v5 : IVec S_ 1 := (fun x v => Host.reduce IntOp.andi x v reducesTo_S1x1792x40x64_S_d0_1_2_3 h_S_) main_v4 main_c_1
  let main_c_2 : IVec S_ 1 := constantI S_ 1 1#1
  let main_v6 : IVec S_ 1 := andi main_c_2 main_v5
  let main_v7 : IVec S1x1792x40x64 32 := (extsi 32 · natLt_8_32) main_arg2
  let main_c_3 : IVec S_ 32 := constantI S_ 32 127#32
  let main_v8 : IVec S1x1792x40x64 32 := broadcastInDim S1x1792x40x64 ![] bcast_S_S1x1792x40x64 main_c_3
  let main_v9 : IVec S1x1792x40x64 32 := andi main_v7 main_v8
  let main_c_4 : IVec S_ 32 := constantI S_ 32 127#32
  let main_v10 : IVec S1x1792x40x64 32 := broadcastInDim S1x1792x40x64 ![] bcast_S_S1x1792x40x64 main_c_4
  let main_v11 : IVec S1x1792x40x64 1 := cmpi .ne main_v9 main_v10
  let main_c_5 : IVec S_ 1 := constantI S_ 1 1#1
  let main_v12 : IVec S_ 1 := (fun x v => Host.reduce IntOp.andi x v reducesTo_S1x1792x40x64_S_d0_1_2_3 h_S_) main_v11 main_c_5
  let main_v13 : IVec S_ 1 := andi main_v6 main_v12
  let main_v14 : IVec S1x1792x40x128 32 := (extsi 32 · natLt_8_32) main_arg4
  let main_c_6 : IVec S_ 32 := constantI S_ 32 127#32
  let main_v15 : IVec S1x1792x40x128 32 := broadcastInDim S1x1792x40x128 ![] bcast_S_S1x1792x40x128 main_c_6
  fn_part1 (F := F) main_arg1 main_arg3 main_arg5 main_arg6 main_arg7 main_arg8 main_arg9 main_arg10 main_arg11 main_v13 main_v14 main_v15
-- ==== Kernel.lean ====
abbrev S1x1792x40x64 : Shape := ⟨4, ![1, 1792, 40, 64]⟩
abbrev S1x1792x40 : Shape := ⟨3, ![1, 1792, 40]⟩
abbrev S1x1792x40x128 : Shape := ⟨4, ![1, 1792, 40, 128]⟩
abbrev S1x40x128x64 : Shape := ⟨4, ![1, 40, 128, 64]⟩
abbrev S1792x40x64 : Shape := ⟨3, ![1792, 40, 64]⟩
abbrev S40x64x1792 : Shape := ⟨3, ![40, 64, 1792]⟩
abbrev S1792x40 : Shape := ⟨2, ![1792, 40]⟩
abbrev S40x1792 : Shape := ⟨2, ![40, 1792]⟩
abbrev S1792x40x128 : Shape := ⟨3, ![1792, 40, 128]⟩
abbrev S40x128x64 : Shape := ⟨3, ![40, 128, 64]⟩
abbrev S40x64x128 : Shape := ⟨3, ![40, 64, 128]⟩
abbrev S1792x5120 : Shape := ⟨2, ![1792, 5120]⟩
abbrev S40x128 : Shape := ⟨2, ![40, 128]⟩
abbrev S128x40x128 : Shape := ⟨3, ![128, 40, 128]⟩
abbrev S128x5120 : Shape := ⟨2, ![128, 5120]⟩
abbrev S512x128 : Shape := ⟨2, ![512, 128]⟩
abbrev S128x4x128 : Shape := ⟨3, ![128, 4, 128]⟩
abbrev S128x128 : Shape := ⟨2, ![128, 128]⟩
abbrev S1x64x128 : Shape := ⟨3, ![1, 64, 128]⟩
abbrev S64x128 : Shape := ⟨2, ![64, 128]⟩
abbrev S1x128 : Shape := ⟨2, ![1, 128]⟩
abbrev S128x64 : Shape := ⟨2, ![128, 64]⟩
abbrev S64x64 : Shape := ⟨2, ![64, 64]⟩
abbrev S64x1 : Shape := ⟨2, ![64, 1]⟩
abbrev S1x64 : Shape := ⟨2, ![1, 64]⟩
abbrev S1x1792x5120 : Shape := ⟨3, ![1, 1792, 5120]⟩

abbrev nBuf : Space → Nat
  | .hbm => 45
  | .vmem => 27
  | .smem => 0
  | _ => 0

abbrev bufTy : (tb : Table) → Fin (tcTables nBuf tb) → BufTy
  | .hbm, ⟨0, _⟩ => ⟨S1x1792x40x64, .i8⟩
  | .hbm, ⟨1, _⟩ => ⟨S1x1792x40, .f32⟩
  | .hbm, ⟨2, _⟩ => ⟨S1x1792x40x64, .i8⟩
  | .hbm, ⟨3, _⟩ => ⟨S1x1792x40, .f32⟩
  | .hbm, ⟨4, _⟩ => ⟨S1x1792x40x128, .i8⟩
  | .hbm, ⟨5, _⟩ => ⟨S1x1792x40, .f32⟩
  | .hbm, ⟨6, _⟩ => ⟨S1x1792x40x64, .i8⟩
  | .hbm, ⟨7, _⟩ => ⟨S1x1792x40, .f32⟩
  | .hbm, ⟨8, _⟩ => ⟨S1x1792x40x64, .i8⟩
  | .hbm, ⟨9, _⟩ => ⟨S1x1792x40, .f32⟩
  | .hbm, ⟨10, _⟩ => ⟨S1x1792x40x64, .f32⟩
  | .hbm, ⟨11, _⟩ => ⟨S1x40x128x64, .f32⟩
  | .hbm, ⟨12, _⟩ => ⟨S1x1792x40x64, .fp8e4m3⟩
  | .hbm, ⟨13, _⟩ => ⟨S1x1792x40x64, .fp8e4m3⟩
  | .hbm, ⟨14, _⟩ => ⟨S1x1792x40x128, .fp8e4m3⟩
  | .hbm, ⟨15, _⟩ => ⟨S1x1792x40x64, .fp8e4m3⟩
  | .hbm, ⟨16, _⟩ => ⟨S1x1792x40x64, .fp8e4m3⟩
  | .hbm, ⟨17, _⟩ => ⟨S1792x40x64, .fp8e4m3⟩
  | .hbm, ⟨18, _⟩ => ⟨S40x64x1792, .fp8e4m3⟩
  | .hbm, ⟨19, _⟩ => ⟨S1792x40, .f32⟩
  | .hbm, ⟨20, _⟩ => ⟨S40x1792, .f32⟩
  | .hbm, ⟨21, _⟩ => ⟨S1792x40x64, .fp8e4m3⟩
  | .hbm, ⟨22, _⟩ => ⟨S40x64x1792, .fp8e4m3⟩
  | .hbm, ⟨23, _⟩ => ⟨S1792x40, .f32⟩
  | .hbm, ⟨24, _⟩ => ⟨S40x1792, .f32⟩
  | .hbm, ⟨25, _⟩ => ⟨S1792x40x128, .fp8e4m3⟩
  | .hbm, ⟨26, _⟩ => ⟨S1792x40, .f32⟩
  | .hbm, ⟨27, _⟩ => ⟨S40x1792, .f32⟩
  | .hbm, ⟨28, _⟩ => ⟨S1792x40x64, .fp8e4m3⟩
  | .hbm, ⟨29, _⟩ => ⟨S40x64x1792, .fp8e4m3⟩
  | .hbm, ⟨30, _⟩ => ⟨S1792x40, .f32⟩
  | .hbm, ⟨31, _⟩ => ⟨S40x1792, .f32⟩
  | .hbm, ⟨32, _⟩ => ⟨S1792x40x64, .fp8e4m3⟩
  | .hbm, ⟨33, _⟩ => ⟨S40x64x1792, .fp8e4m3⟩
  | .hbm, ⟨34, _⟩ => ⟨S1792x40, .f32⟩
  | .hbm, ⟨35, _⟩ => ⟨S40x1792, .f32⟩
  | .hbm, ⟨36, _⟩ => ⟨S1792x40x64, .f32⟩
  | .hbm, ⟨37, _⟩ => ⟨S40x64x1792, .f32⟩
  | .hbm, ⟨38, _⟩ => ⟨S40x128x64, .f32⟩
  | .hbm, ⟨39, _⟩ => ⟨S40x64x128, .f32⟩
  | .hbm, ⟨40, _⟩ => ⟨S1792x5120, .bf16⟩
  | .hbm, ⟨41, _⟩ => ⟨S40x64x128, .f32⟩
  | .hbm, ⟨42, _⟩ => ⟨S1x1792x5120, .bf16⟩
  | .hbm, ⟨43, _⟩ => ⟨S40x128x64, .f32⟩
  | .hbm, ⟨44, _⟩ => ⟨S1x40x128x64, .f32⟩
  | .local _ .vmem, ⟨0, _⟩ => ⟨S40x64x128, .fp8e4m3⟩
  | .local _ .vmem, ⟨1, _⟩ => ⟨S40x64x128, .fp8e4m3⟩
  | .local _ .vmem, ⟨2, _⟩ => ⟨S40x128, .f32⟩
  | .local _ .vmem, ⟨3, _⟩ => ⟨S40x128, .f32⟩
  | .local _ .vmem, ⟨4, _⟩ => ⟨S40x64x128, .fp8e4m3⟩
  | .local _ .vmem, ⟨5, _⟩ => ⟨S40x64x128, .fp8e4m3⟩
  | .local _ .vmem, ⟨6, _⟩ => ⟨S40x128, .f32⟩
  | .local _ .vmem, ⟨7, _⟩ => ⟨S40x128, .f32⟩
  | .local _ .vmem, ⟨8, _⟩ => ⟨S128x40x128, .fp8e4m3⟩
  | .local _ .vmem, ⟨9, _⟩ => ⟨S128x40x128, .fp8e4m3⟩
  | .local _ .vmem, ⟨10, _⟩ => ⟨S40x128, .f32⟩
  | .local _ .vmem, ⟨11, _⟩ => ⟨S40x128, .f32⟩
  | .local _ .vmem, ⟨12, _⟩ => ⟨S40x64x128, .fp8e4m3⟩
  | .local _ .vmem, ⟨13, _⟩ => ⟨S40x64x128, .fp8e4m3⟩
  | .local _ .vmem, ⟨14, _⟩ => ⟨S40x128, .f32⟩
  | .local _ .vmem, ⟨15, _⟩ => ⟨S40x128, .f32⟩
  | .local _ .vmem, ⟨16, _⟩ => ⟨S40x64x128, .fp8e4m3⟩
  | .local _ .vmem, ⟨17, _⟩ => ⟨S40x64x128, .fp8e4m3⟩
  | .local _ .vmem, ⟨18, _⟩ => ⟨S40x128, .f32⟩
  | .local _ .vmem, ⟨19, _⟩ => ⟨S40x128, .f32⟩
  | .local _ .vmem, ⟨20, _⟩ => ⟨S40x64x128, .f32⟩
  | .local _ .vmem, ⟨21, _⟩ => ⟨S40x64x128, .f32⟩
  | .local _ .vmem, ⟨22, _⟩ => ⟨S40x64x128, .f32⟩
  | .local _ .vmem, ⟨23, _⟩ => ⟨S128x5120, .bf16⟩
  | .local _ .vmem, ⟨24, _⟩ => ⟨S128x5120, .bf16⟩
  | .local _ .vmem, ⟨25, _⟩ => ⟨S40x64x128, .f32⟩
  | .local _ .vmem, ⟨26, _⟩ => ⟨S512x128, .f32⟩
  | _, _ => ⟨S1x1792x40x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32_1 : BitVec 32 := 0#32
  let c10_i32 : BitVec 32 := 10#32
  let v3 : BitVec 32 := Scalar.addi c0_i32_1 c10_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c4_i32 : BitVec 32 := 4#32
  let v4 : BitVec 32 := Scalar.muli arg16 c4_i32
  v4
def k0_off1 (k0_t1 : Fin k0_t1_loop.trips) : Fin 3 → Nat :=
  let c0 : Index := 0#32
  let c0_i32_1 : BitVec 32 := 0#32
  let c1_i32 : BitVec 32 := 1#32
  let arg16 : BitVec 32 := Scf.iv c0_i32_1 c1_i32 k0_t1
  let c4_i32 : BitVec 32 := 4#32
  let v4 : BitVec 32 := Scalar.muli arg16 c4_i32
  let v5 : BitVec 32 := v4
  let v6 : Index := Scalar.indexCast v5
  let c0_3 : Index := 0#32
  ![0, v6.toNat, 0]
def k0_off2 (k0_t1 : Fin k0_t1_loop.trips) (c0_i32_7 : BitVec 32) : Fin 3 → Nat :=
  let c0_i32_1 : BitVec 32 := 0#32
  let c1_i32 : BitVec 32 := 1#32
  let arg16 : BitVec 32 := Scf.iv c0_i32_1 c1_i32 k0_t1
  let c4_i32_6 : BitVec 32 := 4#32
  let v14 : BitVec 32 := Scalar.muli arg16 c4_i32_6
  let v15 : BitVec 32 := Scalar.addi v14 c0_i32_7
  let v18 : Index := Scalar.indexCast v15
  let c0_10 : Index := 0#32
  let c0_11 : Index := 0#32
  ![v18.toNat, 0, 0]
def k0_off3 (k0_t1 : Fin k0_t1_loop.trips) (c0_i32_7 : BitVec 32) : Fin 2 → Nat :=
  let c0_i32_1 : BitVec 32 := 0#32
  let c1_i32 : BitVec 32 := 1#32
  let arg16 : BitVec 32 := Scf.iv c0_i32_1 c1_i32 k0_t1
  let c4_i32_6 : BitVec 32 := 4#32
  let v14 : BitVec 32 := Scalar.muli arg16 c4_i32_6
  let v15 : BitVec 32 := Scalar.addi v14 c0_i32_7
  let v25 : Index := Scalar.indexCast v15
  let c0_14 : Index := 0#32
  ![v25.toNat, 0]
def k0_mult2 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c4_i32_6 : BitVec 32 := 4#32
  let v14 : BitVec 32 := Scalar.muli arg16 c4_i32_6
  let c0_i32_7 : BitVec 32 := 0#32
  let v15 : BitVec 32 := Scalar.addi v14 c0_i32_7
  let c128_i32 : BitVec 32 := 128#32
  let v1347 : BitVec 32 := Scalar.muli v15 c128_i32
  v1347
def k0_off4 (k0_t1 : Fin k0_t1_loop.trips) (c0_i32_7 : BitVec 32) : Fin 2 → Nat :=
  let c0_184 : Index := 0#32
  let c0_i32_1 : BitVec 32 := 0#32
  let c1_i32 : BitVec 32 := 1#32
  let arg16 : BitVec 32 := Scf.iv c0_i32_1 c1_i32 k0_t1
  let c4_i32_6 : BitVec 32 := 4#32
  let v14 : BitVec 32 := Scalar.muli arg16 c4_i32_6
  let v15 : BitVec 32 := Scalar.addi v14 c0_i32_7
  let c128_i32 : BitVec 32 := 128#32
  let v1347 : BitVec 32 := Scalar.muli v15 c128_i32
  let v1348 : BitVec 32 := v1347
  let v1349 : Index := Scalar.indexCast v1348
  ![0, v1349.toNat]
def k0_mult3 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c4_i32_187 : BitVec 32 := 4#32
  let v1355 : BitVec 32 := Scalar.muli arg16 c4_i32_187
  let c1_i32_188 : BitVec 32 := 1#32
  let v1356 : BitVec 32 := Scalar.addi v1355 c1_i32_188
  let c128_i32_366 : BitVec 32 := 128#32
  let v2688 : BitVec 32 := Scalar.muli v1356 c128_i32_366
  v2688
def k0_mult4 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c4_i32_370 : BitVec 32 := 4#32
  let v2696 : BitVec 32 := Scalar.muli arg16 c4_i32_370
  let c2_i32 : BitVec 32 := 2#32
  let v2697 : BitVec 32 := Scalar.addi v2696 c2_i32
  let c128_i32_548 : BitVec 32 := 128#32
  let v4029 : BitVec 32 := Scalar.muli v2697 c128_i32_548
  v4029
def k0_mult5 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c4_i32_552 : BitVec 32 := 4#32
  let v4037 : BitVec 32 := Scalar.muli arg16 c4_i32_552
  let c3_i32 : BitVec 32 := 3#32
  let v4038 : BitVec 32 := Scalar.addi v4037 c3_i32
  let c128_i32_730 : BitVec 32 := 128#32
  let v5370 : BitVec 32 := Scalar.muli v4038 c128_i32_730
  v5370
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S40x64x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x64x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x40x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S40x64x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S40x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S40x64x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S40x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S40x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S40x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x5120 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S40x64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1x1792x40x64 : Shape := ⟨4, ![1, 1792, 40, 64]⟩
abbrev S1x1792x40 : Shape := ⟨3, ![1, 1792, 40]⟩
abbrev S1x1792x40x128 : Shape := ⟨4, ![1, 1792, 40, 128]⟩
abbrev S1x40x128x64 : Shape := ⟨4, ![1, 40, 128, 64]⟩
abbrev S40x128x64 : Shape := ⟨3, ![40, 128, 64]⟩
abbrev S1x1x40x64 : Shape := ⟨4, ![1, 1, 40, 64]⟩
abbrev S40x64 : Shape := ⟨2, ![40, 64]⟩
abbrev S1x1x40 : Shape := ⟨3, ![1, 1, 40]⟩
abbrev S40 : Shape := ⟨1, ![40]⟩
abbrev S40x1 : Shape := ⟨2, ![40, 1]⟩
abbrev S1x1x40x128 : Shape := ⟨4, ![1, 1, 40, 128]⟩
abbrev S40x128 : Shape := ⟨2, ![40, 128]⟩
abbrev S40x1x64 : Shape := ⟨3, ![40, 1, 64]⟩
abbrev S40x128x1 : Shape := ⟨3, ![40, 128, 1]⟩
abbrev S1x1792x5120 : Shape := ⟨3, ![1, 1792, 5120]⟩

abbrev nBuf : Space → Nat
  | .hbm => 20
  | .vmem => 14
  | .smem => 0
  | _ => 0

abbrev bufTy : (tb : Table) → Fin (tcTables nBuf tb) → BufTy
  | .hbm, ⟨0, _⟩ => ⟨S1x1792x40x64, .i8⟩
  | .hbm, ⟨1, _⟩ => ⟨S1x1792x40, .f32⟩
  | .hbm, ⟨2, _⟩ => ⟨S1x1792x40x64, .i8⟩
  | .hbm, ⟨3, _⟩ => ⟨S1x1792x40, .f32⟩
  | .hbm, ⟨4, _⟩ => ⟨S1x1792x40x128, .i8⟩
  | .hbm, ⟨5, _⟩ => ⟨S1x1792x40, .f32⟩
  | .hbm, ⟨6, _⟩ => ⟨S1x1792x40x64, .i8⟩
  | .hbm, ⟨7, _⟩ => ⟨S1x1792x40, .f32⟩
  | .hbm, ⟨8, _⟩ => ⟨S1x1792x40x64, .i8⟩
  | .hbm, ⟨9, _⟩ => ⟨S1x1792x40, .f32⟩
  | .hbm, ⟨10, _⟩ => ⟨S1x1792x40x64, .f32⟩
  | .hbm, ⟨11, _⟩ => ⟨S1x40x128x64, .f32⟩
  | .hbm, ⟨12, _⟩ => ⟨S1x1792x40x64, .fp8e4m3⟩
  | .hbm, ⟨13, _⟩ => ⟨S1x1792x40x64, .fp8e4m3⟩
  | .hbm, ⟨14, _⟩ => ⟨S1x1792x40x128, .fp8e4m3⟩
  | .hbm, ⟨15, _⟩ => ⟨S1x1792x40x64, .fp8e4m3⟩
  | .hbm, ⟨16, _⟩ => ⟨S1x1792x40x64, .fp8e4m3⟩
  | .hbm, ⟨17, _⟩ => ⟨S1x1792x40x128, .bf16⟩
  | .hbm, ⟨18, _⟩ => ⟨S1x40x128x64, .f32⟩
  | .hbm, ⟨19, _⟩ => ⟨S1x1792x5120, .bf16⟩
  | .local _ .vmem, ⟨0, _⟩ => ⟨S1x1792x40x64, .fp8e4m3⟩
  | .local _ .vmem, ⟨1, _⟩ => ⟨S1x1792x40, .f32⟩
  | .local _ .vmem, ⟨2, _⟩ => ⟨S1x1792x40x64, .fp8e4m3⟩
  | .local _ .vmem, ⟨3, _⟩ => ⟨S1x1792x40, .f32⟩
  | .local _ .vmem, ⟨4, _⟩ => ⟨S1x1792x40x128, .fp8e4m3⟩
  | .local _ .vmem, ⟨5, _⟩ => ⟨S1x1792x40, .f32⟩
  | .local _ .vmem, ⟨6, _⟩ => ⟨S1x1792x40x64, .fp8e4m3⟩
  | .local _ .vmem, ⟨7, _⟩ => ⟨S1x1792x40, .f32⟩
  | .local _ .vmem, ⟨8, _⟩ => ⟨S1x1792x40x64, .fp8e4m3⟩
  | .local _ .vmem, ⟨9, _⟩ => ⟨S1x1792x40, .f32⟩
  | .local _ .vmem, ⟨10, _⟩ => ⟨S1x1792x40x64, .f32⟩
  | .local _ .vmem, ⟨11, _⟩ => ⟨S1x40x128x64, .f32⟩
  | .local _ .vmem, ⟨12, _⟩ => ⟨S1x1792x40x128, .bf16⟩
  | .local _ .vmem, ⟨13, _⟩ => ⟨S1x40x128x64, .f32⟩
  | _, _ => ⟨S1x1792x40x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1792_i32 : BitVec 32 := 1792#32
  let v2 : BitVec 32 := Scalar.addi c0_i32 c1792_i32
  let c1_i32 : BitVec 32 := 1#32
  ⟨c0_i32, v2, c1_i32⟩
def k0_off1 (k0_t1 : Fin k0_t1_loop.trips) : Fin 4 → Nat :=
  let c0_8 : Index := 0#32
  let c0_i32 : BitVec 32 := 0#32
  let c1_i32 : BitVec 32 := 1#32
  let arg14 : BitVec 32 := Scf.iv c0_i32 c1_i32 k0_t1
  let v7 : Index := Scalar.indexCast arg14
  let c0_9 : Index := 0#32
  let c0_10 : Index := 0#32
  ![0, v7.toNat, 0, 0]
def k0_off2 (k0_t1 : Fin k0_t1_loop.trips) : Fin 3 → Nat :=
  let c0_11 : Index := 0#32
  let c0_i32 : BitVec 32 := 0#32
  let c1_i32 : BitVec 32 := 1#32
  let arg14 : BitVec 32 := Scf.iv c0_i32 c1_i32 k0_t1
  let v11 : Index := Scalar.indexCast arg14
  let c0_12 : Index := 0#32
  ![0, v11.toNat, 0]
def k0_off3 (k0_t1 : Fin k0_t1_loop.trips) : Fin 4 → Nat :=
  let c0_18 : Index := 0#32
  let c0_i32 : BitVec 32 := 0#32
  let c1_i32 : BitVec 32 := 1#32
  let arg14 : BitVec 32 := Scf.iv c0_i32 c1_i32 k0_t1
  let v27 : Index := Scalar.indexCast arg14
  let c0_19 : Index := 0#32
  let c0_20 : Index := 0#32
  ![0, v27.toNat, 0, 0]
abbrev stage0_0 : Fin 1 → Memref sig .tc .vmem S1x1792x40x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1792x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1792x40x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1792x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1792x40x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1792x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1792x40x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1792x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1792x40x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1792x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1792x40x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x40x128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1792x40x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x40x128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KPts.lean ====
module

public import proofs.«01_k».proof.Proof.Gen.Kernel.Frame
public import proofs.«01_k».proof.Proof.Gen.Kernel.Loops

/-! # The grid points

Which grid point is the first, and the staging buffers of a point. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-! ## The kernel body on any staging memrefs: a subtype the run finds -/

/-- One staging buffer of output window 12, through which its contents are stated (`View.read_writes_of_cover`: the
    choice does not matter). -/
abbrev VO0_12 : View sig .tc .vmem S128x5120 .bf16 := (Memref.whole cc0_stg12_0 : Memref sig .tc .vmem S128x5120 .bf16).view
/-- One staging buffer of output window 13, through which its contents are stated (`View.read_writes_of_cover`: the
    choice does not matter). -/
abbrev VO0_13 : View sig .tc .vmem S40x64x128 .f32 := (Memref.whole cc0_stg13_0 : Memref sig .tc .vmem S40x64x128 .f32).view
/-- Each window's current staging memref at point `t`, spelled as the pipeline passes it (`bodyAt0`), and its wholeness. -/
abbrev ms0_0 (t : Fin cfg0.N) : Memref sig .tc .vmem S40x64x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S40x64x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S40x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x40x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S40x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S40x64x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S40x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S40x64x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S40x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S40x64x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S40x64x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x5120 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S40x64x128 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S512x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.KHead.lean ====
module

public import proofs.«01_k».proof.Proof.Gen.Kernel.Skeleton

/-! # One head over one block of 128 tokens

The kernel's arithmetic for one head, written once over the operations the program prints: the
three-way split of a number, the products of splits, the forward substitution and the two chunks
of 64 tokens. The four heads of a trip are the same function of their own loads. -/

@[expose] public section

set_option synthInstance.maxSize 4096
set_option maxRecDepth 16384

noncomputable section

namespace Cert.Kernel.Gen

open Idealize.ShloMosaic Idealize.SL.Sem

variable {F : FTy → Type} [FloatOps F]

/-- The leading piece of a split. -/
def p1 {s : Shape} (x : FVec F s .f32) : FVec F s .bf16 := truncf .bf16 x bitsLt_bf16_f32
/-- What the leading piece leaves. -/
def rest {s : Shape} (x : FVec F s .f32) : FVec F s .f32 := subf x (extf .f32 (p1 x) bitsLt_bf16_f32)
/-- The second piece of a split. -/
def p2 {s : Shape} (x : FVec F s .f32) : FVec F s .bf16 := p1 (rest x)
/-- The third piece of a split. -/
def p3 {s : Shape} (x : FVec F s .f32) : FVec F s .bf16 := p1 (rest (rest x))

/-- The product of a split with an array of bf16, accumulated from zero: three passes. -/
def mm3 {sl sr so : Shape} (d : DotDims sl sr so) (x : FVec F sl .f32) (y : FVec F sr .bf16) : FVec F so .f32 :=
  addf (addf (matmul d none (p1 x) y (constant so .f32 0x00000000#32))
    (matmul d none (p2 x) y (constant so .f32 0x00000000#32)))
    (matmul d none (p3 x) y (constant so .f32 0x00000000#32))

/-- The product of two splits: the six leading passes. -/
def mm6 {sl sr so : Shape} (d : DotDims sl sr so) (x : FVec F sl .f32) (y : FVec F sr .f32) : FVec F so .f32 :=
  addf (addf (addf (addf (addf (matmul d none (p1 x) (p1 y) (constant so .f32 0x00000000#32))
    (matmul d none (p1 x) (p2 y) (constant so .f32 0x00000000#32)))
    (matmul d none (p2 x) (p1 y) (constant so .f32 0x00000000#32)))
    (matmul d none (p2 x) (p2 y) (constant so .f32 0x00000000#32)))
    (matmul d none (p1 x) (p3 y) (constant so .f32 0x00000000#32)))
    (matmul d none (p3 x) (p1 y) (constant so .f32 0x00000000#32))

/-- 64 by 64 by 64. -/
abbrev dA : DotDims S64x64 S64x64 S64x64 := dot_S64x64_S64x64_S64x64_1_0_0_1_n_n
/-- 64 by 64 by 128. -/
abbrev dB : DotDims S64x64 S64x128 S64x128 := dot_S64x64_S64x128_S64x128_1_0_0_1_n_n

/-- The row and column numbers of a 64 by 64 array. -/
def rowI : IVec S64x64 32 := iota .tc S64x64 32 [0] iota_S64x64_d0_w32
def colI : IVec S64x64 32 := iota .tc S64x64 32 [1] iota_S64x64_d1_w32

/-- The part strictly below the diagonal, zero elsewhere. -/
def strict (x : FVec F S64x64 .f32) : FVec F S64x64 .f32 :=
  select (cmpi .sgt rowI colI) x (broadcast S64x64 (Scalar.ofBits .f32 0x00000000#32))
/-- The part on and below the diagonal, zero elsewhere. -/
def lower (x : FVec F S64x64 .f32) : FVec F S64x64 .f32 :=
  select (cmpi .sge rowI colI) x (broadcast S64x64 (Scalar.ofBits .f32 0x00000000#32))
/-- The unit matrix. -/
def unitT : FVec F S64x64 .f32 :=
  select (cmpi .eq rowI colI) (broadcast S64x64 (Scalar.ofBits .f32 0x3F800000#32))
    (broadcast S64x64 (Scalar.ofBits .f32 0x00000000#32))

theorem slices_col (j : ℕ) (h : j < 64) : S64x64.Slices ![0, j] S64x1 :=
  ⟨rfl, fun a => by
    rcases a with ⟨_ | _ | n, ha⟩
    · show 0 + 64 ≤ 64; omega
    · show j + 1 ≤ 64; omega
    · exact absurd ha (by show ¬ (n + 2 < 2); omega)⟩
theorem slices_row (j : ℕ) (h : j < 64) : S64x64.Slices ![j, 0] S1x64 :=
  ⟨rfl, fun a => by
    rcases a with ⟨_ | _ | n, ha⟩
    · show j + 1 ≤ 64; omega
    · show 0 + 64 ≤ 64; omega
    · exact absurd ha (by show ¬ (n + 2 < 2); omega)⟩

/-- One step of the substitution: column `j` of `A` against row `j` of `t`. -/
def substStep (A t : FVec F S64x64 .f32) (j : ℕ) (h : j < 64) : FVec F S64x64 .f32 :=
  addf t (mulf
    (broadcastTo S64x64 (extractStridedSlice S64x1 ![0, j] A (slices_col j h)) broadcasts_S64x1_S64x64)
    (broadcastTo S64x64 (extractStridedSlice S1x64 ![j, 0] t (slices_row j h)) broadcasts_S1x64_S64x64))

/-- The first `n` steps of the substitution. -/
def subst (A : FVec F S64x64 .f32) : (n : ℕ) → n < 65 → FVec F S64x64 .f32
  | 0, _ => unitT
  | n + 1, h => substStep A (subst A n (by omega)) n (by omega)

/-- The chunk's solved right-hand side: what the state holds along each token's `a`. -/
def chunkU (a b k : FVec F S64x64 .f32) (v : FVec F S64x128 .bf16) (S : FVec F S64x128 .f32) : FVec F S64x128 .f32 :=
  mm6 dB (subst (strict (mm6 dA a b)) 63 (by omega)) (addf (mm6 dB a S) (mm3 dB (strict (mm6 dA a k)) v))

/-- The chunk's outputs. -/
def chunkO (a r b k : FVec F S64x64 .f32) (v : FVec F S64x128 .bf16) (S : FVec F S64x128 .f32) : FVec F S64x128 .f32 :=
  addf (addf (mm6 dB r S) (mm6 dB (lower (mm6 dA r b)) (chunkU a b k v S))) (mm3 dB (lower (mm6 dA r k)) v)

/-- The state after the chunk. -/
def chunkS (a b k : FVec F S64x64 .f32) (v : FVec F S64x128 .bf16) (S : FVec F S64x128 .f32)
    (e : FVec F S64x1 .f32) : FVec F S64x128 .f32 :=
  mulf (addf (addf S (mm6 dB b (chunkU a b k v S))) (mm3 dB k v)) (broadcastTo S64x128 e broadcasts_S64x1_S64x128)

/-- The chunk number of a row or column number. -/
def chunkNo (x : IVec S128x128 32) : IVec S128x128 32 :=
  select
    (andi
      (cmpi .ne
        (subi (extui 32 (cmpi .sgt x (broadcast S128x128 0#32)) natLt_1_32)
          (extui 32 (cmpi .slt x (broadcast S128x128 0#32)) natLt_1_32))
        (broadcast S128x128 (Scalar.subi (Scalar.extui (Scalar.cmpi .sgt 64#32 0#32) : BitVec 32)
          (Scalar.extui (Scalar.cmpi .slt 64#32 0#32)))))
      (cmpi .ne (remsi x (broadcast S128x128 64#32)) (broadcast S128x128 0#32)))
    (subi (divsi x (broadcast S128x128 64#32)) (broadcast S128x128 1#32))
    (divsi x (broadcast S128x128 64#32))

/-- One where the row is at most the column and both lie in the same chunk. -/
def triB : FVec F S128x128 .bf16 :=
  truncf .bf16
    (select (andi (cmpi .sle (iota .tc S128x128 32 [0] iota_S128x128_d0_w32) (iota .tc S128x128 32 [1] iota_S128x128_d1_w32))
        (cmpi .eq (chunkNo (iota .tc S128x128 32 [0] iota_S128x128_d0_w32))
          (chunkNo (iota .tc S128x128 32 [1] iota_S128x128_d1_w32))))
      (broadcast S128x128 (Scalar.ofBits .f32 0x3F800000#32))
      (broadcast S128x128 (Scalar.ofBits .f32 0x00000000#32))) bitsLt_bf16_f32

/-- The log decay in base two. -/
def w2 (w : FVec F S64x128 .f32) : FVec F S64x128 .f32 :=
  mulf w (broadcast S64x128 (Scalar.ofBits .f32 0x3FB8AA3B#32))
/-- Its running sum inside each chunk. -/
def gsum (w : FVec F S64x128 .f32) : FVec F S64x128 .f32 :=
  mm3 dot_S64x128_S128x128_S64x128_1_0_0_1_n_n (w2 w) triB
def eg (w : FVec F S64x128 .f32) : FVec F S64x128 .f32 := exp2 (gsum w)
def inv (w : FVec F S64x128 .f32) : FVec F S64x128 .f32 :=
  exp2 (subf (broadcast S64x128 (Scalar.ofBits .f32 0x00000000#32)) (gsum w))

/-- Codes times their scales. -/
def deq (c : FVec F S64x128 .f32) (s : FVec F S1x128 .f32) : FVec F S64x128 .f32 :=
  mulf c (broadcastTo S64x128 s broadcasts_S1x128_S64x128)

/-- The four arrays the chunks read: `a` and `r` with tokens down, `b` and `k` with tokens across. -/
def hA (w ac : FVec F S64x128 .f32) (sa : FVec F S1x128 .f32) : FVec F S128x64 .f32 :=
  transpose S128x64 [1, 0] (mulf (deq ac sa) (exp2 (subf (gsum w) (w2 w)))) transposes_S64x128_p1_0_S128x64
def hR (w rc : FVec F S64x128 .f32) (sr : FVec F S1x128 .f32) : FVec F S128x64 .f32 :=
  transpose S128x64 [1, 0] (mulf (deq rc sr) (eg w)) transposes_S64x128_p1_0_S128x64
def hB (w bc : FVec F S64x128 .f32) (sb : FVec F S1x128 .f32) : FVec F S64x128 .f32 :=
  mulf (deq bc sb) (inv w)

/-- Rows (columns) of the first and of the second chunk. -/
def top (x : FVec F S128x64 .f32) : FVec F S64x64 .f32 := extractStridedSlice S64x64 ![0, 0] x slices_S128x64_o0_0_S64x64
def bot (x : FVec F S128x64 .f32) : FVec F S64x64 .f32 := extractStridedSlice S64x64 ![64, 0] x slices_S128x64_o64_0_S64x64
def left (x : FVec F S64x128 .f32) : FVec F S64x64 .f32 := extractStridedSlice S64x64 ![0, 0] x slices_S64x128_o0_0_S64x64
def right (x : FVec F S64x128 .f32) : FVec F S64x64 .f32 := extractStridedSlice S64x64 ![0, 64] x slices_S64x128_o0_64_S64x64
def topV (x : FVec F S128x128 .bf16) : FVec F S64x128 .bf16 := extractStridedSlice S64x128 ![0, 0] x slices_S128x128_o0_0_S64x128
def botV (x : FVec F S128x128 .bf16) : FVec F S64x128 .bf16 := extractStridedSlice S64x128 ![64, 0] x slices_S128x128_o64_0_S64x128

/-- The state between the two chunks. -/
def headM (w kc ac bc : FVec F S64x128 .f32) (sk sa sb : FVec F S1x128 .f32) (v : FVec F S128x128 .bf16)
    (S : FVec F S64x128 .f32) : FVec F S64x128 .f32 :=
  chunkS (top (hA w ac sa)) (left (hB w bc sb)) (left (hB w kc sk)) (topV v) S
    (extractStridedSlice S64x1 ![0, 63] (eg w) slices_S64x128_o0_63_S64x1)

/-- The head's state after the block. -/
def headS (w kc ac bc : FVec F S64x128 .f32) (sk sa sb : FVec F S1x128 .f32) (v : FVec F S128x128 .bf16)
    (S : FVec F S64x128 .f32) : FVec F S64x128 .f32 :=
  chunkS (bot (hA w ac sa)) (right (hB w bc sb)) (right (hB w kc sk)) (botV v) (headM w kc ac bc sk sa sb v S)
    (extractStridedSlice S64x1 ![0, 127] (eg w) slices_S64x128_o0_127_S64x1)

/-- The head's outputs over the block. -/
def headO (w rc kc ac bc : FVec F S64x128 .f32) (sr sk sa sb : FVec F S1x128 .f32) (v : FVec F S128x128 .bf16)
    (S : FVec F S64x128 .f32) : FVec F S128x128 .bf16 :=
  truncf .bf16
    (concatenate S128x128 0
      [⟨S64x128, chunkO (top (hA w ac sa)) (top (hR w rc sr)) (left (hB w bc sb)) (left (hB w kc sk)) (topV v) S⟩,
       ⟨S64x128, chunkO (bot (hA w ac sa)) (bot (hR w rc sr)) (right (hB w bc sb)) (right (hB w kc sk)) (botV v)
          (headM w kc ac bc sk sa sb v S)⟩]
      concatenates_S64x128_S64x128_S128x128_d0) bitsLt_bf16_f32

end Cert.Kernel.Gen
-- ==== Proof.KTrip.lean ====
module

public import proofs.«01_k».proof.Proof.KHead
public import proofs.«01_k».proof.Proof.Gen.Kernel.Loops

/-! # What one trip of the head loop stores

Four heads: for each, its 128 columns of the output and its state, both functions of what the
trip reads. -/

@[expose] public section

set_option synthInstance.maxSize 4096
set_option maxRecDepth 16384

noncomputable section

namespace Cert.Kernel.Gen

open Idealize.ShloMosaic Idealize.SL.Sem
open Idealize.ShloMosaic.TcCoe

variable {F : FTy → Type} [FloatOps F]

/-- Head `i` of trip `k` of a 40-head array of 64 by 128. -/
def ldH {e : EltTy} (M : Memref sig .tc .vmem S40x64x128 e) (X : BufTy.Contents (Elt F) M.view.ty)
    (k : Fin k0_t1_loop.trips) (i : Fin 4) : Vec F S64x128 e :=
  shapeCast S64x128 (M.view.readAt (Elt F) (Rect.unit (s := S40x64x128) (k0_off2 k (BitVec.ofNat 32 i.val)) S1x64x128.size
    (k0_off2_inb k i)).toLoadRect X) shapeCasts_S1x64x128_S64x128

/-- Row `i` of trip `k` of a 40-head array of scales. -/
def ldS (M : Memref sig .tc .vmem S40x128 .f32) (X : BufTy.Contents (Elt F) M.view.ty)
    (k : Fin k0_t1_loop.trips) (i : Fin 4) : FVec F S1x128 .f32 :=
  shapeCast S1x128 (M.view.readAt (Elt F) (Rect.unit (s := S40x128) (k0_off3 k (BitVec.ofNat 32 i.val)) S1x128.size
    (k0_off3_inb k i)).toLoadRect X) shapeCasts_S1x128_S1x128

theorem vrow_inb (i : Fin 4) : ∀ a, S128x128.size a = 0 ∨ (![i.val, 0] : Fin 2 → ℕ) a + (![4, 1] : Fin 2 → ℕ) a * (S128x128.size a - 1) < S512x128.size a := by
  revert i; decide

/-- The rows of head `i` of trip `k` in the buffer of the four heads' `v`. -/
def ldV (M : Memref sig .tc .vmem S128x40x128 .fp8e4m3) (B : Memref sig .tc .vmem S512x128 .f32)
    (X : BufTy.Contents (Elt F) M.view.ty) (k : Fin k0_t1_loop.trips) (i : Fin 4) : FVec F S128x128 .bf16 :=
  truncf .bf16 (B.view.readCov (trip_k0_t1.sl.HW_arg15_1 M X k)
    { off := ![i.val, 0], size := S128x128.size, stride := ![4, 1], inb := vrow_inb i }) bitsLt_bf16_f32

/-- A head's state, stored. -/
def pieceS (k : Fin k0_t1_loop.trips) (j : Fin 4) (x : FVec F S64x128 .f32) : View.Piece (Elt F) S40x64x128 .f32 :=
  Sigma.mk (β := fun r : Rect S40x64x128 => r.shape.Idx → Elt F .f32) (Rect.unit (s := S40x64x128) (k0_off2 k (BitVec.ofNat 32 j.val)) S1x64x128.size (k0_off2_inb k j))
    (shapeCast S1x64x128 x shapeCasts_S64x128_S1x64x128)

/-- A head's outputs, stored. -/
def pieceO (k : Fin k0_t1_loop.trips) (j : Fin 4) (x : FVec F S128x128 .bf16) : View.Piece (Elt F) S128x5120 .bf16 :=
  Sigma.mk (β := fun r : Rect S128x5120 => r.shape.Idx → Elt F .bf16) (Rect.unit (s := S128x5120) (k0_off4 k (BitVec.ofNat 32 j.val)) S128x128.size (k0_off4_inb k j)) x

section
variable (𝒱 : Variants) (c : Dev nD) (bd : Option 𝒱.V) (i : grid0.Coords) (arg1 : Memref sig .tc .vmem S40x64x128 .fp8e4m3) (harg1 : arg1.IsWhole) (arg2 : Memref sig .tc .vmem S40x128 .f32) (harg2 : arg2.IsWhole) (arg3 : Memref sig .tc .vmem S40x64x128 .fp8e4m3) (harg3 : arg3.IsWhole) (arg4 : Memref sig .tc .vmem S40x128 .f32) (harg4 : arg4.IsWhole) (arg5 : Memref sig .tc .vmem S128x40x128 .fp8e4m3) (harg5 : arg5.IsWhole) (arg6 : Memref sig .tc .vmem S40x128 .f32) (harg6 : arg6.IsWhole) (arg7 : Memref sig .tc .vmem S40x64x128 .fp8e4m3) (harg7 : arg7.IsWhole) (arg8 : Memref sig .tc .vmem S40x128 .f32) (harg8 : arg8.IsWhole) (arg9 : Memref sig .tc .vmem S40x64x128 .fp8e4m3) (harg9 : arg9.IsWhole) (arg10 : Memref sig .tc .vmem S40x128 .f32) (harg10 : arg10.IsWhole) (arg11 : Memref sig .tc .vmem S40x64x128 .f32) (harg11 : arg11.IsWhole) (arg12 : Memref sig .tc .vmem S40x64x128 .f32) (harg12 : arg12.IsWhole) (arg13 : Memref sig .tc .vmem S128x5120 .bf16) (harg13 : arg13.IsWhole) (arg14 : Memref sig .tc .vmem S40x64x128 .f32) (harg14 : arg14.IsWhole) (arg15 : Memref sig .tc .vmem S512x128 .f32) (harg15 : arg15.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips)

/-- The state of head `i` of trip `k`. -/
def tripS (f14 : BufTy.Contents (Elt F) arg14.view.ty) (i : Fin 4) : FVec F S64x128 .f32 :=
  headS (ldH arg11 X_arg11 k i) (extf .f32 (ldH arg3 X_arg3 k i) bitsLt_fp8e4m3_f32)
    (extf .f32 (ldH arg7 X_arg7 k i) bitsLt_fp8e4m3_f32) (extf .f32 (ldH arg9 X_arg9 k i) bitsLt_fp8e4m3_f32)
    (mulf (ldS arg4 X_arg4 k i) (ldS arg6 X_arg6 k i)) (ldS arg8 X_arg8 k i) (ldS arg10 X_arg10 k i)
    (ldV arg5 arg15 X_arg5 k i) (ldH arg14 f14 k i)

/-- The outputs of head `i` of trip `k`. -/
def tripO (f14 : BufTy.Contents (Elt F) arg14.view.ty) (i : Fin 4) : FVec F S128x128 .bf16 :=
  headO (ldH arg11 X_arg11 k i) (extf .f32 (ldH arg1 X_arg1 k i) bitsLt_fp8e4m3_f32)
    (extf .f32 (ldH arg3 X_arg3 k i) bitsLt_fp8e4m3_f32)
    (extf .f32 (ldH arg7 X_arg7 k i) bitsLt_fp8e4m3_f32) (extf .f32 (ldH arg9 X_arg9 k i) bitsLt_fp8e4m3_f32)
    (ldS arg2 X_arg2 k i) (mulf (ldS arg4 X_arg4 k i) (ldS arg6 X_arg6 k i)) (ldS arg8 X_arg8 k i) (ldS arg10 X_arg10 k i)
    (ldV arg5 arg15 X_arg5 k i) (ldH arg14 f14 k i)

/-- The state of head `i` of trip `k` between its two chunks. -/
def tripM (f14 : BufTy.Contents (Elt F) arg14.view.ty) (i : Fin 4) : FVec F S64x128 .f32 :=
  headM (ldH arg11 X_arg11 k i) (extf .f32 (ldH arg3 X_arg3 k i) bitsLt_fp8e4m3_f32)
    (extf .f32 (ldH arg7 X_arg7 k i) bitsLt_fp8e4m3_f32) (extf .f32 (ldH arg9 X_arg9 k i) bitsLt_fp8e4m3_f32)
    (mulf (ldS arg4 X_arg4 k i) (ldS arg6 X_arg6 k i)) (ldS arg8 X_arg8 k i) (ldS arg10 X_arg10 k i)
    (ldV arg5 arg15 X_arg5 k i) (ldH arg14 f14 k i)

/-- `headS` from the state between the chunks. -/
theorem headS_of (w kc ac bc : FVec F S64x128 .f32) (sk sa sb : FVec F S1x128 .f32) (v : FVec F S128x128 .bf16)
    (S : FVec F S64x128 .f32) {M S' : FVec F S64x128 .f32} (hM : M = headM w kc ac bc sk sa sb v S)
    (hS : S' = chunkS (bot (hA w ac sa)) (right (hB w bc sb)) (right (hB w kc sk)) (botV v) M
      (extractStridedSlice S64x1 ![0, 127] (eg w) slices_S64x128_o0_127_S64x1)) : S' = headS w kc ac bc sk sa sb v S := by
  rw [hS, hM]; rfl

/-- `headO` from the state between the chunks. -/
theorem headO_of (w rc kc ac bc : FVec F S64x128 .f32) (sr sk sa sb : FVec F S1x128 .f32) (v : FVec F S128x128 .bf16)
    (S : FVec F S64x128 .f32) {M : FVec F S64x128 .f32} {O : FVec F S128x128 .bf16} (hM : M = headM w kc ac bc sk sa sb v S)
    (hO : O = truncf .bf16
      (concatenate S128x128 0
        [⟨S64x128, chunkO (top (hA w ac sa)) (top (hR w rc sr)) (left (hB w bc sb)) (left (hB w kc sk)) (topV v) S⟩,
         ⟨S64x128, chunkO (bot (hA w ac sa)) (bot (hR w rc sr)) (right (hB w bc sb)) (right (hB w kc sk)) (botV v) M⟩]
        concatenates_S64x128_S64x128_S128x128_d0) bitsLt_bf16_f32) : O = headO w rc kc ac bc sr sk sa sb v S := by
  rw [hO, hM]; rfl

section
variable (f14 : BufTy.Contents (Elt F) arg14.view.ty)

set_option maxHeartbeats 2000000

theorem tripM_0 : trip_k0_t1.sl.r_72 (F := F) arg3 arg4 arg5 arg6 arg7 arg8 arg9 arg10 arg11 arg14 arg15 X_arg3 X_arg4 X_arg5 X_arg6 X_arg7 X_arg8 X_arg9 X_arg10 X_arg11 k f14 =
    tripM arg3 arg4 arg5 arg6 arg7 arg8 arg9 arg10 arg11 arg14 arg15 X_arg3 X_arg4 X_arg5 X_arg6 X_arg7 X_arg8 X_arg9 X_arg10 X_arg11 k f14 0 := by rfl

theorem tripM_1 : trip_k0_t1.sl.r_184 (F := F) arg3 arg4 arg5 arg6 arg7 arg8 arg9 arg10 arg11 arg14 arg15 X_arg3 X_arg4 X_arg5 X_arg6 X_arg7 X_arg8 X_arg9 X_arg10 X_arg11 k f14 =
    tripM arg3 arg4 arg5 arg6 arg7 arg8 arg9 arg10 arg11 arg14 arg15 X_arg3 X_arg4 X_arg5 X_arg6 X_arg7 X_arg8 X_arg9 X_arg10 X_arg11 k f14 1 := by rfl

theorem tripM_2 : trip_k0_t1.sl.r_317 (F := F) arg3 arg4 arg5 arg6 arg7 arg8 arg9 arg10 arg11 arg14 arg15 X_arg3 X_arg4 X_arg5 X_arg6 X_arg7 X_arg8 X_arg9 X_arg10 X_arg11 k f14 =
    tripM arg3 arg4 arg5 arg6 arg7 arg8 arg9 arg10 arg11 arg14 arg15 X_arg3 X_arg4 X_arg5 X_arg6 X_arg7 X_arg8 X_arg9 X_arg10 X_arg11 k f14 2 := by rfl

theorem tripM_3 : trip_k0_t1.sl.r_432 (F := F) arg3 arg4 arg5 arg6 arg7 arg8 arg9 arg10 arg11 arg14 arg15 X_arg3 X_arg4 X_arg5 X_arg6 X_arg7 X_arg8 X_arg9 X_arg10 X_arg11 k f14 =
    tripM arg3 arg4 arg5 arg6 arg7 arg8 arg9 arg10 arg11 arg14 arg15 X_arg3 X_arg4 X_arg5 X_arg6 X_arg7 X_arg8 X_arg9 X_arg10 X_arg11 k f14 3 := by rfl

/-- A head's stored state, from the state between its chunks. -/
theorem pieceS_of (j : Fin 4) {p : FVec F S1x64x128 .f32} {M : FVec F S64x128 .f32}
    (hM : M = tripM arg3 arg4 arg5 arg6 arg7 arg8 arg9 arg10 arg11 arg14 arg15 X_arg3 X_arg4 X_arg5 X_arg6 X_arg7 X_arg8 X_arg9 X_arg10 X_arg11 k f14 j)
    (hp : p = shapeCast S1x64x128 (chunkS (bot (hA (ldH arg11 X_arg11 k j) (extf .f32 (ldH arg7 X_arg7 k j) bitsLt_fp8e4m3_f32) (ldS arg8 X_arg8 k j))) (right (hB (ldH arg11 X_arg11 k j) (extf .f32 (ldH arg9 X_arg9 k j) bitsLt_fp8e4m3_f32) (ldS arg10 X_arg10 k j))) (right (hB (ldH arg11 X_arg11 k j) (extf .f32 (ldH arg3 X_arg3 k j) bitsLt_fp8e4m3_f32) (mulf (ldS arg4 X_arg4 k j) (ldS arg6 X_arg6 k j)))) (botV (ldV arg5 arg15 X_arg5 k j)) M
      (extractStridedSlice S64x1 ![0, 127] (eg (ldH arg11 X_arg11 k j)) slices_S64x128_o0_127_S64x1)) shapeCasts_S64x128_S1x64x128) :
    (Sigma.mk (β := fun r : Rect S40x64x128 => r.shape.Idx → Elt F .f32) (Rect.unit (s := S40x64x128) (k0_off2 k (BitVec.ofNat 32 j.val)) S1x64x128.size (k0_off2_inb k j)) p : View.Piece (Elt F) S40x64x128 .f32) =
      pieceS k j (tripS arg3 arg4 arg5 arg6 arg7 arg8 arg9 arg10 arg11 arg14 arg15 X_arg3 X_arg4 X_arg5 X_arg6 X_arg7 X_arg8 X_arg9 X_arg10 X_arg11 k f14 j) := by
  rw [hp]; exact congrArg (pieceS k j) (headS_of (ldH arg11 X_arg11 k j) (extf .f32 (ldH arg3 X_arg3 k j) bitsLt_fp8e4m3_f32) (extf .f32 (ldH arg7 X_arg7 k j) bitsLt_fp8e4m3_f32) (extf .f32 (ldH arg9 X_arg9 k j) bitsLt_fp8e4m3_f32) (mulf (ldS arg4 X_arg4 k j) (ldS arg6 X_arg6 k j)) (ldS arg8 X_arg8 k j) (ldS arg10 X_arg10 k j) (ldV arg5 arg15 X_arg5 k j) (ldH arg14 f14 k j) hM rfl)

/-- A head's stored outputs, from the state between its chunks. -/
theorem pieceO_of (j : Fin 4) {p : FVec F S128x128 .bf16} {M : FVec F S64x128 .f32}
    (hM : M = tripM arg3 arg4 arg5 arg6 arg7 arg8 arg9 arg10 arg11 arg14 arg15 X_arg3 X_arg4 X_arg5 X_arg6 X_arg7 X_arg8 X_arg9 X_arg10 X_arg11 k f14 j)
    (hp : p = truncf .bf16
      (concatenate S128x128 0
        [⟨S64x128, chunkO (top (hA (ldH arg11 X_arg11 k j) (extf .f32 (ldH arg7 X_arg7 k j) bitsLt_fp8e4m3_f32) (ldS arg8 X_arg8 k j))) (top (hR (ldH arg11 X_arg11 k j) (extf .f32 (ldH arg1 X_arg1 k j) bitsLt_fp8e4m3_f32) (ldS arg2 X_arg2 k j))) (left (hB (ldH arg11 X_arg11 k j) (extf .f32 (ldH arg9 X_arg9 k j) bitsLt_fp8e4m3_f32) (ldS arg10 X_arg10 k j))) (left (hB (ldH arg11 X_arg11 k j) (extf .f32 (ldH arg3 X_arg3 k j) bitsLt_fp8e4m3_f32) (mulf (ldS arg4 X_arg4 k j) (ldS arg6 X_arg6 k j)))) (topV (ldV arg5 arg15 X_arg5 k j)) (ldH arg14 f14 k j)⟩,
         ⟨S64x128, chunkO (bot (hA (ldH arg11 X_arg11 k j) (extf .f32 (ldH arg7 X_arg7 k j) bitsLt_fp8e4m3_f32) (ldS arg8 X_arg8 k j))) (bot (hR (ldH arg11 X_arg11 k j) (extf .f32 (ldH arg1 X_arg1 k j) bitsLt_fp8e4m3_f32) (ldS arg2 X_arg2 k j))) (right (hB (ldH arg11 X_arg11 k j) (extf .f32 (ldH arg9 X_arg9 k j) bitsLt_fp8e4m3_f32) (ldS arg10 X_arg10 k j))) (right (hB (ldH arg11 X_arg11 k j) (extf .f32 (ldH arg3 X_arg3 k j) bitsLt_fp8e4m3_f32) (mulf (ldS arg4 X_arg4 k j) (ldS arg6 X_arg6 k j)))) (botV (ldV arg5 arg15 X_arg5 k j)) M⟩]
        concatenates_S64x128_S64x128_S128x128_d0) bitsLt_bf16_f32) :
    (Sigma.mk (β := fun r : Rect S128x5120 => r.shape.Idx → Elt F .bf16) (Rect.unit (s := S128x5120) (k0_off4 k (BitVec.ofNat 32 j.val)) S128x128.size (k0_off4_inb k j)) p : View.Piece (Elt F) S128x5120 .bf16) =
      pieceO k j (tripO arg1 arg2 arg3 arg4 arg5 arg6 arg7 arg8 arg9 arg10 arg11 arg14 arg15 X_arg1 X_arg2 X_arg3 X_arg4 X_arg5 X_arg6 X_arg7 X_arg8 X_arg9 X_arg10 X_arg11 k f14 j) :=
  congrArg (pieceO k j) (headO_of (ldH arg11 X_arg11 k j) (extf .f32 (ldH arg1 X_arg1 k j) bitsLt_fp8e4m3_f32) (extf .f32 (ldH arg3 X_arg3 k j) bitsLt_fp8e4m3_f32) (extf .f32 (ldH arg7 X_arg7 k j) bitsLt_fp8e4m3_f32) (extf .f32 (ldH arg9 X_arg9 k j) bitsLt_fp8e4m3_f32) (ldS arg2 X_arg2 k j) (mulf (ldS arg4 X_arg4 k j) (ldS arg6 X_arg6 k j)) (ldS arg8 X_arg8 k j) (ldS arg10 X_arg10 k j) (ldV arg5 arg15 X_arg5 k j) (ldH arg14 f14 k j) hM hp)
end
end
end Cert.Kernel.Gen
-- ==== Proof.KTripL.lean ====
module

public import proofs.«01_k».proof.Proof.KTrip
public import proofs.«01_k».proof.Proof.Gen.Kernel.Loops

/-! # The stores of one trip

The two lists of stores of a trip of the head loop, as the four heads' outputs and states. -/

@[expose] public section

set_option synthInstance.maxSize 4096
set_option maxRecDepth 16384
set_option maxHeartbeats 4000000

noncomputable section

namespace Cert.Kernel.Gen

open Idealize.ShloMosaic Idealize.SL.Sem
open Idealize.ShloMosaic.TcCoe

variable {F : FTy → Type} [FloatOps F]

section
variable (𝒱 : Variants) (c : Dev nD) (bd : Option 𝒱.V) (i : grid0.Coords) (arg1 : Memref sig .tc .vmem S40x64x128 .fp8e4m3) (harg1 : arg1.IsWhole) (arg2 : Memref sig .tc .vmem S40x128 .f32) (harg2 : arg2.IsWhole) (arg3 : Memref sig .tc .vmem S40x64x128 .fp8e4m3) (harg3 : arg3.IsWhole) (arg4 : Memref sig .tc .vmem S40x128 .f32) (harg4 : arg4.IsWhole) (arg5 : Memref sig .tc .vmem S128x40x128 .fp8e4m3) (harg5 : arg5.IsWhole) (arg6 : Memref sig .tc .vmem S40x128 .f32) (harg6 : arg6.IsWhole) (arg7 : Memref sig .tc .vmem S40x64x128 .fp8e4m3) (harg7 : arg7.IsWhole) (arg8 : Memref sig .tc .vmem S40x128 .f32) (harg8 : arg8.IsWhole) (arg9 : Memref sig .tc .vmem S40x64x128 .fp8e4m3) (harg9 : arg9.IsWhole) (arg10 : Memref sig .tc .vmem S40x128 .f32) (harg10 : arg10.IsWhole) (arg11 : Memref sig .tc .vmem S40x64x128 .f32) (harg11 : arg11.IsWhole) (arg12 : Memref sig .tc .vmem S40x64x128 .f32) (harg12 : arg12.IsWhole) (arg13 : Memref sig .tc .vmem S128x5120 .bf16) (harg13 : arg13.IsWhole) (arg14 : Memref sig .tc .vmem S40x64x128 .f32) (harg14 : arg14.IsWhole) (arg15 : Memref sig .tc .vmem S512x128 .f32) (harg15 : arg15.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips)

variable (f14 : BufTy.Contents (Elt F) arg14.view.ty)

/-- Trip `k` stores the four heads' states, the last head first in the list. -/
theorem tripL_S (f13 : BufTy.Contents (Elt F) arg13.view.ty) (f15 : BufTy.Contents (Elt F) arg15.view.ty) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 k f13 f14 f15).2.1 =
      ([3, 2, 1, 0] : List (Fin 4)).map fun j => pieceS k j (tripS arg3 arg4 arg5 arg6 arg7 arg8 arg9 arg10 arg11 arg14 arg15 X_arg3 X_arg4 X_arg5 X_arg6 X_arg7 X_arg8 X_arg9 X_arg10 X_arg11 k f14 j) := by
  simp only [List.map_cons, List.map_nil]
  unfold trip_k0_t1
  dsimp only
  refine congrArg₂ List.cons (pieceS_of arg3 arg4 arg5 arg6 arg7 arg8 arg9 arg10 arg11 arg14 arg15 X_arg3 X_arg4 X_arg5 X_arg6 X_arg7 X_arg8 X_arg9 X_arg10 X_arg11 k f14 3 (tripM_3 arg3 arg4 arg5 arg6 arg7 arg8 arg9 arg10 arg11 arg14 arg15 X_arg3 X_arg4 X_arg5 X_arg6 X_arg7 X_arg8 X_arg9 X_arg10 X_arg11 k f14) ?_)
    (congrArg₂ List.cons (pieceS_of arg3 arg4 arg5 arg6 arg7 arg8 arg9 arg10 arg11 arg14 arg15 X_arg3 X_arg4 X_arg5 X_arg6 X_arg7 X_arg8 X_arg9 X_arg10 X_arg11 k f14 2 (tripM_2 arg3 arg4 arg5 arg6 arg7 arg8 arg9 arg10 arg11 arg14 arg15 X_arg3 X_arg4 X_arg5 X_arg6 X_arg7 X_arg8 X_arg9 X_arg10 X_arg11 k f14) ?_)
    (congrArg₂ List.cons (pieceS_of arg3 arg4 arg5 arg6 arg7 arg8 arg9 arg10 arg11 arg14 arg15 X_arg3 X_arg4 X_arg5 X_arg6 X_arg7 X_arg8 X_arg9 X_arg10 X_arg11 k f14 1 (tripM_1 arg3 arg4 arg5 arg6 arg7 arg8 arg9 arg10 arg11 arg14 arg15 X_arg3 X_arg4 X_arg5 X_arg6 X_arg7 X_arg8 X_arg9 X_arg10 X_arg11 k f14) ?_)
    (congrArg₂ List.cons (pieceS_of arg3 arg4 arg5 arg6 arg7 arg8 arg9 arg10 arg11 arg14 arg15 X_arg3 X_arg4 X_arg5 X_arg6 X_arg7 X_arg8 X_arg9 X_arg10 X_arg11 k f14 0 (tripM_0 arg3 arg4 arg5 arg6 arg7 arg8 arg9 arg10 arg11 arg14 arg15 X_arg3 X_arg4 X_arg5 X_arg6 X_arg7 X_arg8 X_arg9 X_arg10 X_arg11 k f14) ?_)
    rfl)))
  all_goals rfl

/-- Trip `k` stores the four heads' outputs, the last head first in the list. -/
theorem tripL_O (f13 : BufTy.Contents (Elt F) arg13.view.ty) (f15 : BufTy.Contents (Elt F) arg15.view.ty) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 k f13 f14 f15).1 =
      ([3, 2, 1, 0] : List (Fin 4)).map fun j => pieceO k j (tripO arg1 arg2 arg3 arg4 arg5 arg6 arg7 arg8 arg9 arg10 arg11 arg14 arg15 X_arg1 X_arg2 X_arg3 X_arg4 X_arg5 X_arg6 X_arg7 X_arg8 X_arg9 X_arg10 X_arg11 k f14 j) := by
  simp only [List.map_cons, List.map_nil]
  unfold trip_k0_t1
  dsimp only
  refine congrArg₂ List.cons (pieceO_of arg1 arg2 arg3 arg4 arg5 arg6 arg7 arg8 arg9 arg10 arg11 arg14 arg15 X_arg1 X_arg2 X_arg3 X_arg4 X_arg5 X_arg6 X_arg7 X_arg8 X_arg9 X_arg10 X_arg11 k f14 3 (tripM_3 arg3 arg4 arg5 arg6 arg7 arg8 arg9 arg10 arg11 arg14 arg15 X_arg3 X_arg4 X_arg5 X_arg6 X_arg7 X_arg8 X_arg9 X_arg10 X_arg11 k f14) ?_)
    (congrArg₂ List.cons (pieceO_of arg1 arg2 arg3 arg4 arg5 arg6 arg7 arg8 arg9 arg10 arg11 arg14 arg15 X_arg1 X_arg2 X_arg3 X_arg4 X_arg5 X_arg6 X_arg7 X_arg8 X_arg9 X_arg10 X_arg11 k f14 2 (tripM_2 arg3 arg4 arg5 arg6 arg7 arg8 arg9 arg10 arg11 arg14 arg15 X_arg3 X_arg4 X_arg5 X_arg6 X_arg7 X_arg8 X_arg9 X_arg10 X_arg11 k f14) ?_)
    (congrArg₂ List.cons (pieceO_of arg1 arg2 arg3 arg4 arg5 arg6 arg7 arg8 arg9 arg10 arg11 arg14 arg15 X_arg1 X_arg2 X_arg3 X_arg4 X_arg5 X_arg6 X_arg7 X_arg8 X_arg9 X_arg10 X_arg11 k f14 1 (tripM_1 arg3 arg4 arg5 arg6 arg7 arg8 arg9 arg10 arg11 arg14 arg15 X_arg3 X_arg4 X_arg5 X_arg6 X_arg7 X_arg8 X_arg9 X_arg10 X_arg11 k f14) ?_)
    (congrArg₂ List.cons (pieceO_of arg1 arg2 arg3 arg4 arg5 arg6 arg7 arg8 arg9 arg10 arg11 arg14 arg15 X_arg1 X_arg2 X_arg3 X_arg4 X_arg5 X_arg6 X_arg7 X_arg8 X_arg9 X_arg10 X_arg11 k f14 0 (tripM_0 arg3 arg4 arg5 arg6 arg7 arg8 arg9 arg10 arg11 arg14 arg15 X_arg3 X_arg4 X_arg5 X_arg6 X_arg7 X_arg8 X_arg9 X_arg10 X_arg11 k f14) ?_)
    rfl)))
  all_goals rfl
end
end Cert.Kernel.Gen
-- ==== Proof.KBlock.lean ====
module

public import proofs.«01_k».proof.Proof.KTripL
public import Idealize.ShloMosaic.Lib.Pointwise.Index
public import Idealize.ShloMosaic.Lib.WritesUnit
public import Idealize.ShloMosaic.Lib.Pointwise.Reshape

/-! # What the ten trips leave

The block's outputs and the states after it as functions of the block's inputs and the states
before it, and the lemma that the stores of the ten trips leave exactly these, whatever the
output buffers held. -/

@[expose] public section

set_option synthInstance.maxSize 4096
set_option maxRecDepth 16384

noncomputable section

namespace Cert.Kernel.Gen

open Idealize.ShloMosaic Idealize.SL.Sem
open Idealize.ShloMosaic.TcCoe

variable {F : FTy → Type} [FloatOps F]

/-- Head `h` of a 40-head array. -/
def hd {e : EltTy} (x : Vec F S40x64x128 e) (h : Fin 40) : Vec F S64x128 e := fun j => x (ix3 h (j 0) (j 1))
/-- Row `h` of the scales. -/
def hdS (x : Vec F S40x128 .f32) (h : Fin 40) : FVec F S1x128 .f32 := fun j => x (ix2 h (j 1))
/-- The codes of head `h`, token by token. -/
def hdV (x : Vec F S128x40x128 .fp8e4m3) (h : Fin 40) : FVec F S128x128 .bf16 :=
  truncf .bf16 (extf .f32 (fun j => x (ix3 (j 0) h (j 1)) : FVec F S128x128 .fp8e4m3) bitsLt_fp8e4m3_f32) bitsLt_bf16_f32

/-- Head `4k + j`. -/
def hno (k : Fin k0_t1_loop.trips) (j : Fin 4) : Fin 40 :=
  ⟨4 * k.val + j.val, by have : k.val < 10 := Nat.lt_of_lt_of_le k.isLt k0_t1_abs.2.1; omega⟩

theorem ldH_eq {e : EltTy} (M : Memref sig .tc .vmem S40x64x128 e) (X : BufTy.Contents (Elt F) M.view.ty)
    (k : Fin k0_t1_loop.trips) (i : Fin 4) : ldH M X k i = hd (M.view.read (Elt F) X) (hno k i) := by
  funext j
  unfold ldH hd shapeCast
  rw [show Shape.reshapeEquiv shapeCasts_S1x64x128_S64x128 j = (Fin.cons ⟨0, Nat.one_pos⟩ j : S1x64x128.Idx) from
    Shape.reshapeEquiv_cons_one _ j]
  rw [View.readAt_apply]
  refine congrArg (M.view.read (Elt F) X) (funext fun a => Fin.ext ?_)
  rw [LoadRect.idx_apply]
  refine (congrArg (· + 1 * _) (congrFun (k0_off2_eq k i) a)).trans ?_
  rcases a with ⟨_ | _ | _ | n, ha⟩
  · show 4 * k.val + i.val + 1 * 0 = 4 * k.val + i.val; omega
  · show 0 + 1 * (j 0).val = (j 0).val; omega
  · show 0 + 1 * (j 1).val = (j 1).val; omega
  · exact absurd ha (by show ¬ (n + 3 < 3); omega)

theorem ldS_eq (M : Memref sig .tc .vmem S40x128 .f32) (X : BufTy.Contents (Elt F) M.view.ty)
    (k : Fin k0_t1_loop.trips) (i : Fin 4) : ldS M X k i = hdS (M.view.read (Elt F) X) (hno k i) := by
  funext j
  unfold ldS hdS shapeCast
  rw [show Shape.reshapeEquiv shapeCasts_S1x128_S1x128 j = j from Shape.reshapeEquiv_self _ j]
  rw [View.readAt_apply]
  refine congrArg (M.view.read (Elt F) X) (funext fun a => Fin.ext ?_)
  rw [LoadRect.idx_apply]
  refine (congrArg (· + 1 * _) (congrFun (k0_off3_eq k i) a)).trans ?_
  rcases a with ⟨_ | _ | n, ha⟩
  · have : (j 0).val < 1 := (j 0).isLt
    show 4 * k.val + i.val + 1 * (j 0).val = 4 * k.val + i.val; omega
  · show 0 + 1 * (j 1).val = (j 1).val; omega
  · exact absurd ha (by show ¬ (n + 2 < 2); omega)

/-- The buffer's row `4t + i` is token `t` of head `4k + i`. -/
theorem ldV_eq (M : Memref sig .tc .vmem S128x40x128 .fp8e4m3) (B : Memref sig .tc .vmem S512x128 .f32)
    (X : BufTy.Contents (Elt F) M.view.ty)
    (k : Fin k0_t1_loop.trips) (i : Fin 4) : ldV M B X k i = hdV (M.view.read (Elt F) X) (hno k i) := by
  unfold ldV hdV
  refine congrArg (fun z => truncf .bf16 z bitsLt_bf16_f32) (funext fun j => ?_)
  unfold View.readCov trip_k0_t1.sl.HW_arg15_1
  rw [View.readAt_apply]
  have hoff : (![0, 0] : Fin 2 → ℕ) = fun _ => 0 := by funext a; fin_cases a <;> rfl
  refine (View.read_writes_cons_unit_of_mem B.view _ _ _ _ _ (LoadRect.idx _ j) rfl (fun a => ?_)).trans ?_
  · exact ((congrArg (· + _) (congrFun hoff a)).trans (Nat.zero_add _)).symm
  unfold k0_pay3
  dsimp only
  refine (congrFun (shapeCast_id _ _) _).trans ?_
  refine congrArg (fun z : F .fp8e4m3 => extf .f32 (fun _ : S128x128.Idx => z) bitsLt_fp8e4m3_f32 j) (?_ :
    shapeCast S128x4x128 (M.view.readAt (Elt F) (Rect.unit (s := S128x40x128) (k0_off1 k) S128x4x128.size (k0_off1_inb k)).toLoadRect X)
      shapeCasts_S128x4x128_S128x4x128 (Shape.reshapeEquiv shapeCasts_S128x4x128_S512x128 _) = M.view.read (Elt F) X (ix3 (j 0) (hno k i) (j 1)))
  refine (congrFun (shapeCast_id _ _) _).trans ?_
  rw [View.readAt_apply]
  refine congrArg (M.view.read (Elt F) X) ?_
  have h1 : (j 1).val < 128 := (j 1).isLt
  have h0 : (j 0).val < 128 := (j 0).isLt
  refine (congrArg _ (Shape.reshapeEquiv_eq_of_rowMajor shapeCasts_S128x4x128_S512x128
    (y := (ix3 (j 0) i (j 1) : S128x4x128.Idx)) ?_)).trans ?_
  · refine (Shape.rowMajor_val_three _).trans (Eq.trans ?_ (Shape.rowMajor_val_two _).symm)
    show ((j 0).val * 4 + i.val) * 128 + (j 1).val = (i.val + 4 * (j 0).val) * 128 + (0 + 1 * (j 1).val)
    omega
  · refine funext fun a => Fin.ext ?_
    rw [LoadRect.idx_apply]
    refine (congrArg (· + 1 * _) (congrFun (k0_off1_eq k) a)).trans ?_
    rcases a with ⟨_ | _ | _ | n, ha⟩
    · show 0 + 1 * (j 0).val = (j 0).val; omega
    · show 4 * k.val + 1 * i.val = 4 * k.val + i.val; omega
    · show 0 + 1 * (j 1).val = (j 1).val; omega
    · exact absurd ha (by show ¬ (n + 3 < 3); omega)

/-- What a block reads: codes and scales of `r`, `k`, `v`, `a`, `b`, and the log-decays. -/
structure Inp (F : FTy → Type) where
  r : Vec F S40x64x128 .fp8e4m3
  sr : Vec F S40x128 .f32
  k : Vec F S40x64x128 .fp8e4m3
  sk : Vec F S40x128 .f32
  v : Vec F S128x40x128 .fp8e4m3
  sv : Vec F S40x128 .f32
  a : Vec F S40x64x128 .fp8e4m3
  sa : Vec F S40x128 .f32
  b : Vec F S40x64x128 .fp8e4m3
  sb : Vec F S40x128 .f32
  w : Vec F S40x64x128 .f32

/-- Head `h`'s state after the block, from its state before. -/
def blkS (I : Inp F) (h : Fin 40) (S : FVec F S64x128 .f32) : FVec F S64x128 .f32 :=
  headS (hd I.w h) (extf .f32 (hd I.k h) bitsLt_fp8e4m3_f32) (extf .f32 (hd I.a h) bitsLt_fp8e4m3_f32)
    (extf .f32 (hd I.b h) bitsLt_fp8e4m3_f32) (mulf (hdS I.sk h) (hdS I.sv h)) (hdS I.sa h) (hdS I.sb h) (hdV I.v h) S

/-- Head `h`'s outputs over the block. -/
def blkO (I : Inp F) (h : Fin 40) (S : FVec F S64x128 .f32) : FVec F S128x128 .bf16 :=
  headO (hd I.w h) (extf .f32 (hd I.r h) bitsLt_fp8e4m3_f32) (extf .f32 (hd I.k h) bitsLt_fp8e4m3_f32)
    (extf .f32 (hd I.a h) bitsLt_fp8e4m3_f32) (extf .f32 (hd I.b h) bitsLt_fp8e4m3_f32)
    (hdS I.sr h) (mulf (hdS I.sk h) (hdS I.sv h)) (hdS I.sa h) (hdS I.sb h) (hdV I.v h) S

/-- All heads' states after the block. -/
def stNew (I : Inp F) (S : Vec F S40x64x128 .f32) : Vec F S40x64x128 .f32 :=
  fun y => blkS I (y 0) (hd S (y 0)) (ix2 (y 1) (y 2))

/-- The head of an output column. -/
def colHead (y : S128x5120.Idx) : Fin 40 := ⟨(y 1).val / 128, by have : (y 1).val < 5120 := (y 1).isLt; omega⟩
/-- The channel of an output column. -/
def colChan (y : S128x5120.Idx) : Fin 128 := ⟨(y 1).val % 128, by omega⟩

/-- All heads' outputs over the block. -/
def outNew (I : Inp F) (S : Vec F S40x64x128 .f32) : Vec F S128x5120 .bf16 :=
  fun y => blkO I (colHead y) (hd S (colHead y)) (ix2 (y 0) (colChan y))

theorem off2_closed : ∀ (k : Fin k0_t1_loop.trips) (r : Fin 4), k0_off2 k (BitVec.ofNat 32 r.val) = ![4 * k.val + r.val, 0, 0] := by
  decide +kernel
theorem off4_closed : ∀ (k : Fin k0_t1_loop.trips) (r : Fin 4), k0_off4 k (BitVec.ofNat 32 r.val) = ![0, 512 * k.val + 128 * r.val] := by
  decide +kernel

section
variable (M : Memref sig .tc .vmem S40x64x128 .f32) (f : BufTy.Contents (Elt F) M.view.ty)
  (L : List (View.Piece (Elt F) S40x64x128 .f32)) (k : Fin k0_t1_loop.trips)

/-- What one stored state leaves. -/
theorem read_pieceS (j : Fin 4) (x : FVec F S64x128 .f32) (y : S40x64x128.Idx) :
    M.view.read (Elt F) (M.view.writes (Elt F) f (pieceS k j x :: L)) y =
      if (y 0).val = 4 * k.val + j.val then x (ix2 (y 1) (y 2)) else M.view.read (Elt F) (M.view.writes (Elt F) f L) y := by
  unfold pieceS
  split
  case isTrue hy =>
    refine (View.read_writes_cons_unit_of_mem M.view f _ _ _ _ (ix3 ⟨0, Nat.one_pos⟩ (y 1) (y 2) : S1x64x128.Idx) (off2_closed k j)
      (fun a => ?_)).trans ?_
    · rcases a with ⟨_ | _ | _ | n, ha⟩
      · show (y 0).val = 4 * k.val + j.val + 0; omega
      · show (y 1).val = 0 + (y 1).val; omega
      · show (y 2).val = 0 + (y 2).val; omega
      · exact absurd ha (by show ¬ (n + 3 < 3); omega)
    · show x _ = _
      refine congrArg x (Shape.reshapeEquiv_eq_of_rowMajor _ ?_)
      refine (Shape.rowMajor_val_two _).trans (Eq.trans ?_ (Shape.rowMajor_val_three _).symm)
      show (y 1).val * 128 + (y 2).val = (0 * 64 + (y 1).val) * 128 + (y 2).val
      omega
  case isFalse hy =>
    refine View.read_writes_cons_unit_of_not_mem M.view f _ _ _ _ (off2_closed k j) 0 ?_
    show (y 0).val < 4 * k.val + j.val ∨ 4 * k.val + j.val + 1 ≤ (y 0).val
    omega

theorem read_pieceS4 (x : Fin 4 → FVec F S64x128 .f32) (y : S40x64x128.Idx) :
    M.view.read (Elt F) (M.view.writes (Elt F) f ((([3, 2, 1, 0] : List (Fin 4)).map fun j => pieceS k j (x j)) ++ L)) y =
      if h : 4 * k.val ≤ (y 0).val ∧ (y 0).val < 4 * k.val + 4 then x ⟨(y 0).val - 4 * k.val, by omega⟩ (ix2 (y 1) (y 2))
      else M.view.read (Elt F) (M.view.writes (Elt F) f L) y := by
  simp only [List.map_cons, List.map_nil, List.cons_append, List.nil_append]
  rw [read_pieceS, read_pieceS, read_pieceS, read_pieceS]
  have e3 : (3 : Fin 4).val = 3 := rfl
  have e2 : (2 : Fin 4).val = 2 := rfl
  have e1 : (1 : Fin 4).val = 1 := rfl
  have e0 : (0 : Fin 4).val = 0 := rfl
  rw [e3, e2, e1, e0]
  split_ifs with h3 h2 h1 h0 <;> first
    | omega
    | rfl
    | exact congrFun (congrArg x (Fin.ext (by simp only [Fin.val_ofNat]; omega))) _
end

section
variable (M : Memref sig .tc .vmem S128x5120 .bf16) (f : BufTy.Contents (Elt F) M.view.ty)
  (L : List (View.Piece (Elt F) S128x5120 .bf16)) (k : Fin k0_t1_loop.trips)

/-- What one head's stored outputs leave. -/
theorem read_pieceO (j : Fin 4) (x : FVec F S128x128 .bf16) (y : S128x5120.Idx) :
    M.view.read (Elt F) (M.view.writes (Elt F) f (pieceO k j x :: L)) y =
      if (colHead y).val = 4 * k.val + j.val then x (ix2 (y 0) (colChan y))
      else M.view.read (Elt F) (M.view.writes (Elt F) f L) y := by
  unfold pieceO
  have hc : (colHead y).val = (y 1).val / 128 := rfl
  split
  case isTrue hy =>
    refine (View.read_writes_cons_unit_of_mem M.view f _ _ _ _ (ix2 (y 0) (colChan y) : S128x128.Idx) (off4_closed k j)
      (fun a => ?_))
    rcases a with ⟨_ | _ | n, ha⟩
    · show (y 0).val = 0 + (y 0).val; omega
    · show (y 1).val = 512 * k.val + 128 * j.val + (y 1).val % 128; omega
    · exact absurd ha (by show ¬ (n + 2 < 2); omega)
  case isFalse hy =>
    refine View.read_writes_cons_unit_of_not_mem M.view f _ _ _ _ (off4_closed k j) 1 ?_
    show (y 1).val < 512 * k.val + 128 * j.val ∨ 512 * k.val + 128 * j.val + 128 ≤ (y 1).val
    omega

theorem read_pieceO4 (x : Fin 4 → FVec F S128x128 .bf16) (y : S128x5120.Idx) :
    M.view.read (Elt F) (M.view.writes (Elt F) f ((([3, 2, 1, 0] : List (Fin 4)).map fun j => pieceO k j (x j)) ++ L)) y =
      if h : 4 * k.val ≤ (colHead y).val ∧ (colHead y).val < 4 * k.val + 4 then
        x ⟨(colHead y).val - 4 * k.val, by omega⟩ (ix2 (y 0) (colChan y))
      else M.view.read (Elt F) (M.view.writes (Elt F) f L) y := by
  simp only [List.map_cons, List.map_nil, List.cons_append, List.nil_append]
  rw [read_pieceO, read_pieceO, read_pieceO, read_pieceO]
  have e3 : (3 : Fin 4).val = 3 := rfl
  have e2 : (2 : Fin 4).val = 2 := rfl
  have e1 : (1 : Fin 4).val = 1 := rfl
  have e0 : (0 : Fin 4).val = 0 := rfl
  rw [e3, e2, e1, e0]
  split_ifs with h3 h2 h1 h0 <;> first
    | omega
    | rfl
    | exact congrFun (congrArg x (Fin.ext (by simp only [Fin.val_ofNat]; omega))) _
end

section
variable {𝒱 : Variants} {c : Dev nD} {bd : Option 𝒱.V} {i : grid0.Coords} {arg1 : Memref sig .tc .vmem S40x64x128 .fp8e4m3} {harg1 : arg1.IsWhole} {arg2 : Memref sig .tc .vmem S40x128 .f32} {harg2 : arg2.IsWhole} {arg3 : Memref sig .tc .vmem S40x64x128 .fp8e4m3} {harg3 : arg3.IsWhole} {arg4 : Memref sig .tc .vmem S40x128 .f32} {harg4 : arg4.IsWhole} {arg5 : Memref sig .tc .vmem S128x40x128 .fp8e4m3} {harg5 : arg5.IsWhole} {arg6 : Memref sig .tc .vmem S40x128 .f32} {harg6 : arg6.IsWhole} {arg7 : Memref sig .tc .vmem S40x64x128 .fp8e4m3} {harg7 : arg7.IsWhole} {arg8 : Memref sig .tc .vmem S40x128 .f32} {harg8 : arg8.IsWhole} {arg9 : Memref sig .tc .vmem S40x64x128 .fp8e4m3} {harg9 : arg9.IsWhole} {arg10 : Memref sig .tc .vmem S40x128 .f32} {harg10 : arg10.IsWhole} {arg11 : Memref sig .tc .vmem S40x64x128 .f32} {harg11 : arg11.IsWhole} {arg12 : Memref sig .tc .vmem S40x64x128 .f32} {harg12 : arg12.IsWhole} {arg13 : Memref sig .tc .vmem S128x5120 .bf16} {harg13 : arg13.IsWhole} {arg14 : Memref sig .tc .vmem S40x64x128 .f32} {harg14 : arg14.IsWhole} {arg15 : Memref sig .tc .vmem S512x128 .f32} {harg15 : arg15.IsWhole} {X_arg1 : BufTy.Contents (Elt F) arg1.view.ty} {X_arg2 : BufTy.Contents (Elt F) arg2.view.ty} {X_arg3 : BufTy.Contents (Elt F) arg3.view.ty} {X_arg4 : BufTy.Contents (Elt F) arg4.view.ty} {X_arg5 : BufTy.Contents (Elt F) arg5.view.ty} {X_arg6 : BufTy.Contents (Elt F) arg6.view.ty} {X_arg7 : BufTy.Contents (Elt F) arg7.view.ty} {X_arg8 : BufTy.Contents (Elt F) arg8.view.ty} {X_arg9 : BufTy.Contents (Elt F) arg9.view.ty} {X_arg10 : BufTy.Contents (Elt F) arg10.view.ty} {X_arg11 : BufTy.Contents (Elt F) arg11.view.ty} {G_arg13 : BufTy.Contents (Elt F) arg13.view.ty} {G_arg14 : BufTy.Contents (Elt F) arg14.view.ty} {G_arg15 : BufTy.Contents (Elt F) arg15.view.ty}

theorem tripS_eq (k : Fin k0_t1_loop.trips) (f14 : BufTy.Contents (Elt F) arg14.view.ty) (j : Fin 4) :
    tripS arg3 arg4 arg5 arg6 arg7 arg8 arg9 arg10 arg11 arg14 arg15 X_arg3 X_arg4 X_arg5 X_arg6 X_arg7 X_arg8 X_arg9 X_arg10 X_arg11 k f14 j
      = blkS { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (hno k j) (hd (arg14.view.read (Elt F) f14) (hno k j)) := by
  unfold tripS blkS
  simp only [ldH_eq, ldS_eq, ldV_eq]

theorem tripO_eq (k : Fin k0_t1_loop.trips) (f14 : BufTy.Contents (Elt F) arg14.view.ty) (j : Fin 4) :
    tripO arg1 arg2 arg3 arg4 arg5 arg6 arg7 arg8 arg9 arg10 arg11 arg14 arg15 X_arg1 X_arg2 X_arg3 X_arg4 X_arg5 X_arg6 X_arg7 X_arg8 X_arg9 X_arg10 X_arg11 k f14 j
      = blkO { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (hno k j) (hd (arg14.view.read (Elt F) f14) (hno k j)) := by
  unfold tripO blkO
  simp only [ldH_eq, ldS_eq, ldV_eq]

/-- The stores of the states through trip `k`. -/
theorem pbS_succ (k : Fin k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 (k.val + 1)).2.1 =
      (([3, 2, 1, 0] : List (Fin 4)).map fun j => pieceS k j (tripS arg3 arg4 arg5 arg6 arg7 arg8 arg9 arg10 arg11 arg14 arg15 X_arg3 X_arg4 X_arg5 X_arg6 X_arg7 X_arg8 X_arg9 X_arg10 X_arg11 k
        (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k.val).2.1) j)) ++ (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k.val).2.1 := by
  rw [pb_k0_t1_succ]
  exact congrArg (· ++ _) (tripL_S ..)

/-- The stores of the outputs through trip `k`. -/
theorem pbO_succ (k : Fin k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 (k.val + 1)).1 =
      (([3, 2, 1, 0] : List (Fin 4)).map fun j => pieceO k j (tripO arg1 arg2 arg3 arg4 arg5 arg6 arg7 arg8 arg9 arg10 arg11 arg14 arg15 X_arg1 X_arg2 X_arg3 X_arg4 X_arg5 X_arg6 X_arg7 X_arg8 X_arg9 X_arg10 X_arg11 k
        (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k.val).2.1) j)) ++ (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k.val).1 := by
  rw [pb_k0_t1_succ]
  exact congrArg (· ++ _) (tripL_O ..)

/-- The states after `k` trips: the first `4k` heads' are new. -/
theorem read_pbS (k : ℕ) (hk : k ≤ k0_t1_loop.trips) (y : S40x64x128.Idx) :
    arg14.view.read (Elt F) (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k).2.1) y =
      if (y 0).val < 4 * k then stNew { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (arg14.view.read (Elt F) G_arg14) y
      else arg14.view.read (Elt F) G_arg14 y := by
  induction k generalizing y with
  | zero => rfl
  | succ k ih =>
    have ih := fun y => ih (Nat.le_of_succ_le hk) y
    refine (congrArg (fun L => arg14.view.read (Elt F) (arg14.view.writes (Elt F) G_arg14 L) y) (pbS_succ (k := ⟨k, hk⟩))).trans ?_
    dsimp only
    rw [read_pieceS4]
    split
    case isTrue h =>
      rw [if_pos (by have := h.2; show (y 0).val < 4 * (k + 1); simp only at this; omega), tripS_eq]
      have hh : hno ⟨k, hk⟩ ⟨(y 0).val - 4 * k, by have := h.2; simp only at this; omega⟩ = y 0 :=
        Fin.ext (by have := h.1; show 4 * k + ((y 0).val - 4 * k) = _; simp only at this; omega)
      rw [hh]
      unfold stNew
      refine congrFun (congrArg _ ?_) _
      funext z
      unfold hd
      rw [ih, if_neg (by have := h.1; show ¬ ((y 0).val < 4 * k); simp only at this; omega)]
    case isFalse h =>
      rw [ih]
      simp only at h
      refine if_congr (by omega) rfl rfl

/-- The outputs after `k` trips: the first `4k` heads' are written. -/
theorem read_pbO (k : ℕ) (hk : k ≤ k0_t1_loop.trips) (y : S128x5120.Idx) :
    arg13.view.read (Elt F) (arg13.view.writes (Elt F) G_arg13 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k).1) y =
      if (colHead y).val < 4 * k then outNew { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (arg14.view.read (Elt F) G_arg14) y
      else arg13.view.read (Elt F) G_arg13 y := by
  induction k generalizing y with
  | zero => rfl
  | succ k ih =>
    have ih := fun y => ih (Nat.le_of_succ_le hk) y
    refine (congrArg (fun L => arg13.view.read (Elt F) (arg13.view.writes (Elt F) G_arg13 L) y) (pbO_succ (k := ⟨k, hk⟩))).trans ?_
    dsimp only
    rw [read_pieceO4]
    split
    case isTrue h =>
      rw [if_pos (by have := h.2; show (colHead y).val < 4 * (k + 1); simp only at this; omega), tripO_eq]
      have hh : hno ⟨k, hk⟩ ⟨(colHead y).val - 4 * k, by have := h.2; simp only at this; omega⟩ = colHead y :=
        Fin.ext (by have := h.1; show 4 * k + ((colHead y).val - 4 * k) = _; simp only at this; omega)
      rw [hh]
      unfold outNew
      refine congrFun (congrArg _ ?_) _
      funext z
      unfold hd
      rw [read_pbS _ (Nat.le_of_succ_le hk),
        if_neg (by have := h.1; show ¬ ((colHead y).val < 4 * k); simp only at this; omega)]
    case isFalse h =>
      rw [ih]
      simp only at h
      refine if_congr (by omega) rfl rfl

theorem trips_eq : k0_t1_loop.trips = 10 := by decide +kernel

/-- After the ten trips every head's state is the new one. -/
theorem read_pbS_all :
    arg14.view.read (Elt F) (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k0_t1_loop.trips).2.1) =
      stNew { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (arg14.view.read (Elt F) G_arg14) := by
  funext y
  rw [read_pbS _ le_rfl, if_pos (by have : (y 0).val < 40 := (y 0).isLt; rw [trips_eq]; omega)]

/-- After the ten trips every head's outputs are written. -/
theorem read_pbO_all :
    arg13.view.read (Elt F) (arg13.view.writes (Elt F) G_arg13 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k0_t1_loop.trips).1) =
      outNew { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (arg14.view.read (Elt F) G_arg14) := by
  funext y
  rw [read_pbO _ le_rfl, if_pos (by have := (colHead y).isLt; rw [trips_eq]; omega)]
end

end Cert.Kernel.Gen
-- ==== Proof.KRun.lean ====
module

public import proofs.«01_k».proof.Proof.KPts
public import proofs.«01_k».proof.Proof.KBlock

/-! # The body at a grid point

On whole staging buffers the body leaves the block's outputs and the new states, from the states it
finds: at the first point those of the argument `h0`, later those the point before left. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
/-- The body at the first point: the states start from `h0`. -/
theorem kernelRun_A (c : Dev nD) (i : grid0.Coords) (arg1 : Memref sig .tc .vmem S40x64x128 .fp8e4m3) (harg1 : arg1.IsWhole) (arg2 : Memref sig .tc .vmem S40x128 .f32) (harg2 : arg2.IsWhole) (arg3 : Memref sig .tc .vmem S40x64x128 .fp8e4m3) (harg3 : arg3.IsWhole) (arg4 : Memref sig .tc .vmem S40x128 .f32) (harg4 : arg4.IsWhole) (arg5 : Memref sig .tc .vmem S128x40x128 .fp8e4m3) (harg5 : arg5.IsWhole) (arg6 : Memref sig .tc .vmem S40x128 .f32) (harg6 : arg6.IsWhole) (arg7 : Memref sig .tc .vmem S40x64x128 .fp8e4m3) (harg7 : arg7.IsWhole) (arg8 : Memref sig .tc .vmem S40x128 .f32) (harg8 : arg8.IsWhole) (arg9 : Memref sig .tc .vmem S40x64x128 .fp8e4m3) (harg9 : arg9.IsWhole) (arg10 : Memref sig .tc .vmem S40x128 .f32) (harg10 : arg10.IsWhole) (arg11 : Memref sig .tc .vmem S40x64x128 .f32) (harg11 : arg11.IsWhole) (arg12 : Memref sig .tc .vmem S40x64x128 .f32) (harg12 : arg12.IsWhole) (arg13 : Memref sig .tc .vmem S128x5120 .bf16) (harg13 : arg13.IsWhole) (arg14 : Memref sig .tc .vmem S40x64x128 .f32) (harg14 : arg14.IsWhole) (arg15 : Memref sig .tc .vmem S512x128 .f32) (harg15 : arg15.IsWhole) (hc0 : cond0_0 i)
    (x0 : Vec F S40x64x128 .fp8e4m3) (x1 : Vec F S40x128 .f32) (x2 : Vec F S40x64x128 .fp8e4m3) (x3 : Vec F S40x128 .f32) (x4 : Vec F S128x40x128 .fp8e4m3) (x5 : Vec F S40x128 .f32) (x6 : Vec F S40x64x128 .fp8e4m3) (x7 : Vec F S40x128 .f32) (x8 : Vec F S40x64x128 .fp8e4m3) (x9 : Vec F S40x128 .f32) (x10 : Vec F S40x64x128 .f32) (x11 : Vec F S40x64x128 .f32) (E : Set ℕ) (K : PUnit → sProp (MT nD τ sig Unit (Elt F) ℕ (UR sig nD τ) ℕ)) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outNew (⟨x0, x1, x2, x3, x4, x5, x6, x7, x8, x9, x10⟩ : Inp F) x11) ∗ owns (c : Thread nD τ) arg14 fullShare (stNew (⟨x0, x1, x2, x3, x4, x5, x6, x7, x8, x9, x10⟩ : Inp F) x11) ∗ (∃ d, owns (c : Thread nD τ) arg15 fullShare d)) -∗ K ⟨⟩))
          ⊢ wp frame (wpE (defs₀ (F := F)) Variants.none c none) E (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_rwkv7_eq_skeleton]; unfold cc0_rwkv7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  have hz : arg14.view.read (Elt F) (arg14.view.writes (Elt F) arg14.view.junk (kernelRun_A.sl.H13_1 c arg12 harg12 x11)) = x11 := by
    unfold kernelRun_A.sl.H13_1
    funext y
    have hoff : (![0, 0, 0] : Fin 3 → ℕ) = fun _ => 0 := by funext a; fin_cases a <;> rfl
    refine (View.read_writes_cons_unit_of_mem arg14.view _ _ _ _ _ y rfl (fun a => ?_)).trans ?_
    · exact ((congrArg (· + _) (congrFun hoff a)).trans (Nat.zero_add _)).symm
    unfold k0_pay1
    rw [shapeCast_id, View.readAt_apply, harg12.read_unread]
    refine congrArg x11 (funext fun a => Fin.ext ?_)
    rw [LoadRect.idx_apply]
    refine (congrArg (· + 1 * _) (congrFun hoff a)).trans ?_
    show 0 + 1 * (y a).val = (y a).val
    omega
  isplitl [H12]
  · iexists _; isplitr; swap; · iexact H12
    ipureintro
    refine (read_pbO_all ..).trans ?_
    simp only [hz, harg1.read_unread, harg2.read_unread, harg3.read_unread, harg4.read_unread, harg5.read_unread, harg6.read_unread, harg7.read_unread, harg8.read_unread, harg9.read_unread, harg10.read_unread, harg11.read_unread]
  isplitl [H13]
  · iexists _; isplitr; swap; · iexact H13
    ipureintro
    rw [View.writes_append]
    refine (read_pbS_all ..).trans ?_
    simp only [hz, harg1.read_unread, harg2.read_unread, harg3.read_unread, harg4.read_unread, harg5.read_unread, harg6.read_unread, harg7.read_unread, harg8.read_unread, harg9.read_unread, harg10.read_unread, harg11.read_unread]
  iexists _, _; isplitr; swap; · iexact HS0
  ipureintro; rfl

set_option maxHeartbeats 1000000 in
/-- The body at a later point: the states are those the point before left. -/
theorem kernelRun_B (c : Dev nD) (i : grid0.Coords) (arg1 : Memref sig .tc .vmem S40x64x128 .fp8e4m3) (harg1 : arg1.IsWhole) (arg2 : Memref sig .tc .vmem S40x128 .f32) (harg2 : arg2.IsWhole) (arg3 : Memref sig .tc .vmem S40x64x128 .fp8e4m3) (harg3 : arg3.IsWhole) (arg4 : Memref sig .tc .vmem S40x128 .f32) (harg4 : arg4.IsWhole) (arg5 : Memref sig .tc .vmem S128x40x128 .fp8e4m3) (harg5 : arg5.IsWhole) (arg6 : Memref sig .tc .vmem S40x128 .f32) (harg6 : arg6.IsWhole) (arg7 : Memref sig .tc .vmem S40x64x128 .fp8e4m3) (harg7 : arg7.IsWhole) (arg8 : Memref sig .tc .vmem S40x128 .f32) (harg8 : arg8.IsWhole) (arg9 : Memref sig .tc .vmem S40x64x128 .fp8e4m3) (harg9 : arg9.IsWhole) (arg10 : Memref sig .tc .vmem S40x128 .f32) (harg10 : arg10.IsWhole) (arg11 : Memref sig .tc .vmem S40x64x128 .f32) (harg11 : arg11.IsWhole) (arg12 : Memref sig .tc .vmem S40x64x128 .f32) (harg12 : arg12.IsWhole) (arg13 : Memref sig .tc .vmem S128x5120 .bf16) (harg13 : arg13.IsWhole) (arg14 : Memref sig .tc .vmem S40x64x128 .f32) (harg14 : arg14.IsWhole) (arg15 : Memref sig .tc .vmem S512x128 .f32) (harg15 : arg15.IsWhole) (hc0 : ¬cond0_0 i)
    (x0 : Vec F S40x64x128 .fp8e4m3) (x1 : Vec F S40x128 .f32) (x2 : Vec F S40x64x128 .fp8e4m3) (x3 : Vec F S40x128 .f32) (x4 : Vec F S128x40x128 .fp8e4m3) (x5 : Vec F S40x128 .f32) (x6 : Vec F S40x64x128 .fp8e4m3) (x7 : Vec F S40x128 .f32) (x8 : Vec F S40x64x128 .fp8e4m3) (x9 : Vec F S40x128 .f32) (x10 : Vec F S40x64x128 .f32) (x11 : Vec F S40x64x128 .f32) (xo13 : Vec F S40x64x128 .f32) (E : Set ℕ) (K : PUnit → sProp (MT nD τ sig Unit (Elt F) ℕ (UR sig nD τ) ℕ)) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xo13 ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outNew (⟨x0, x1, x2, x3, x4, x5, x6, x7, x8, x9, x10⟩ : Inp F) xo13) ∗ owns (c : Thread nD τ) arg14 fullShare (stNew (⟨x0, x1, x2, x3, x4, x5, x6, x7, x8, x9, x10⟩ : Inp F) xo13) ∗ (∃ d, owns (c : Thread nD τ) arg15 fullShare d)) -∗ K ⟨⟩))
          ⊢ wp frame (wpE (defs₀ (F := F)) Variants.none c none) E (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_rwkv7_eq_skeleton]; unfold cc0_rwkv7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    refine (read_pbO_all ..).trans ?_
    simp only [harg1.read_unread, harg2.read_unread, harg3.read_unread, harg4.read_unread, harg5.read_unread, harg6.read_unread, harg7.read_unread, harg8.read_unread, harg9.read_unread, harg10.read_unread, harg11.read_unread, harg14.read_unread]
  isplitl [H13]
  · iexists _; isplitr; swap; · iexact H13
    ipureintro
    refine (read_pbS_all ..).trans ?_
    simp only [harg1.read_unread, harg2.read_unread, harg3.read_unread, harg4.read_unread, harg5.read_unread, harg6.read_unread, harg7.read_unread, harg8.read_unread, harg9.read_unread, harg10.read_unread, harg11.read_unread, harg14.read_unread]
  iexists _, _; isplitr; swap; · iexact HS0
  ipureintro; rfl

end Cert.Kernel.Gen

end
-- ==== Proof.KGrid.lean ====
module

public import Idealize.ShloMosaic.Lib.Claim
public import proofs.«01_k».proof.Proof.KRun

/-! # The run of the whole grid

The fourteen grid points one after the other: the states are carried in the output's staging buffer
from point to point, each point's outputs are written back. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the body reads at point `t`. -/
def inpAt (c : Dev nD) (t : Fin cfg0.N) : Inp F :=
  ⟨iblk m c 0 t, iblk m c 1 t, iblk m c 2 t, iblk m c 3 t, iblk m c 4 t, iblk m c 5 t, iblk m c 6 t, iblk m c 7 t,
    iblk m c 8 t, iblk m c 9 t, iblk m c 10 t⟩

/-- The states after `n` points, from the initial states. -/
def stAt (c : Dev nD) : (n : ℕ) → n < cfg0.N → Vec F S40x64x128 .f32
  | 0, hn => iblk m c 11 ⟨0, hn⟩
  | n + 1, hn => stNew (inpAt m c ⟨n, Nat.lt_of_succ_lt hn⟩) (stAt c n (Nat.lt_of_succ_lt hn))

/-! ## The pipeline's proof data -/

/-- The proof data of the one pipeline on core `c`: the arrays as the region finds them (`V`); after the body at
    point `t` each input's buffer at its block and the outputs' at the block functions; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outNew (inpAt m c t) (stAt m c t.val t.isLt)
    | ⟨13, _⟩ => stNew (inpAt m c t) (stAt m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outNew (inpAt m c t) (stAt m c t.val t.isLt) := by dsimp only [dats]
theorem after0_13 (c : Dev nD) (t : Fin cfg0.N) : (dats m 0 c).after 13 t = stNew (inpAt m c t) (stAt m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 14 = 0) (d) :
    (dats m 0 c).before 13 t d = stAt m c t.val t.isLt := by
  have hN : t.val < 14 := lt_of_lt_of_eq t.isLt (show cfg0.N = 14 from N_0)
  rw [Dat.before_out_kept _ 13 rfl t (by omega) (Bool.eq_false_iff.mpr fun h => by have := (flush0_13 _).mp h; dsimp only at this; omega)
    (fun _ => rfl) (fun _ _ => rfl)]
  dsimp only [dats]
  obtain ⟨n, hn⟩ := t
  cases n with
  | zero => exact absurd (Nat.zero_mod _) h0
  | succ n => rfl

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  have hN : t.val < 14 := lt_of_lt_of_eq t.isLt (show cfg0.N = 14 from N_0)
  by_cases h0 : t.val % 14 = 0
  · have est : stAt m c t.val t.isLt = iblk m c 11 t := by
      obtain ⟨n, hn⟩ := t
      have : n = 0 := by simp only at h0 hN; omega
      subst this; rfl
    rw [est]; unfold inpAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (kernelRun_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexact HS0
    iintro ⟨H0, H1, H2, H3, H4, H5, H6, H7, H8, H9, H10, H11, H12, H13, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before0_13_B m c t h0]
    unfold inpAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (kernelRun_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [HS0]; · iexact HS0
    iintro ⟨H0, H1, H2, H3, H4, H5, H6, H7, H8, H9, H10, H11, H12, H13, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Gen

end
-- ==== Proof.Pts.lean ====
module

public import proofs.«01_k».proof.Proof.Gen.KernelIdeal.Frame
public import proofs.«01_k».proof.Proof.Gen.KernelIdeal.Loops

/-! # The grid points

Which grid point is the first, and the staging buffers of a point. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-! ## The kernel body on any staging memrefs: a subtype the run finds -/

/-- One staging buffer of output window 12, through which its contents are stated (`View.read_writes_of_cover`: the
    choice does not matter). -/
abbrev VO0_12 : View sig .tc .vmem S128x5120 .bf16 := (Memref.whole cc0_stg12_0 : Memref sig .tc .vmem S128x5120 .bf16).view
/-- One staging buffer of output window 13, through which its contents are stated (`View.read_writes_of_cover`: the
    choice does not matter). -/
abbrev VO0_13 : View sig .tc .vmem S40x64x128 .f32 := (Memref.whole cc0_stg13_0 : Memref sig .tc .vmem S40x64x128 .f32).view
/-- Each window's current staging memref at point `t`, spelled as the pipeline passes it (`bodyAt0`), and its wholeness. -/
abbrev ms0_0 (t : Fin cfg0.N) : Memref sig .tc .vmem S40x64x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S40x64x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S40x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x40x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S40x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S40x64x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S40x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S40x64x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S40x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S40x64x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S40x64x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x5120 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S40x64x128 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S512x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.Head.lean ====
module

public import proofs.«01_k».proof.Proof.Gen.KernelIdeal.Skeleton

/-! # One head over one block of 128 tokens

The kernel's arithmetic for one head, written once over the operations the program prints: the
three-way split of a number, the products of splits, the forward substitution and the two chunks
of 64 tokens. The four heads of a trip are the same function of their own loads. -/

@[expose] public section

set_option synthInstance.maxSize 4096
set_option maxRecDepth 16384

noncomputable section

namespace Cert.KernelIdeal.Gen

open Idealize.ShloMosaic Idealize.SL.Sem

variable {F : FTy → Type} [FloatOps F] [Named F]

/-- The leading piece of a split. -/
def p1 {s : Shape} (x : FVec F s .f32) : FVec F s .bf16 := truncf .bf16 x bitsLt_bf16_f32
/-- What the leading piece leaves. -/
def rest {s : Shape} (x : FVec F s .f32) : FVec F s .f32 := subf x (extf .f32 (p1 x) bitsLt_bf16_f32)
/-- The second piece of a split. -/
def p2 {s : Shape} (x : FVec F s .f32) : FVec F s .bf16 := p1 (rest x)
/-- The third piece of a split. -/
def p3 {s : Shape} (x : FVec F s .f32) : FVec F s .bf16 := p1 (rest (rest x))

/-- The product of a split with an array of bf16, accumulated from zero: three passes. -/
def mm3 {sl sr so : Shape} (d : DotDims sl sr so) (x : FVec F sl .f32) (y : FVec F sr .bf16) : FVec F so .f32 :=
  addf (addf (matmul d none (p1 x) y (constant so .f32 0x00000000#32))
    (matmul d none (p2 x) y (constant so .f32 0x00000000#32)))
    (matmul d none (p3 x) y (constant so .f32 0x00000000#32))

/-- The product of two splits: the six leading passes. -/
def mm6 {sl sr so : Shape} (d : DotDims sl sr so) (x : FVec F sl .f32) (y : FVec F sr .f32) : FVec F so .f32 :=
  addf (addf (addf (addf (addf (matmul d none (p1 x) (p1 y) (constant so .f32 0x00000000#32))
    (matmul d none (p1 x) (p2 y) (constant so .f32 0x00000000#32)))
    (matmul d none (p2 x) (p1 y) (constant so .f32 0x00000000#32)))
    (matmul d none (p2 x) (p2 y) (constant so .f32 0x00000000#32)))
    (matmul d none (p1 x) (p3 y) (constant so .f32 0x00000000#32)))
    (matmul d none (p3 x) (p1 y) (constant so .f32 0x00000000#32))

/-- 64 by 64 by 64. -/
abbrev dA : DotDims S64x64 S64x64 S64x64 := dot_S64x64_S64x64_S64x64_1_0_0_1_n_n
/-- 64 by 64 by 128. -/
abbrev dB : DotDims S64x64 S64x128 S64x128 := dot_S64x64_S64x128_S64x128_1_0_0_1_n_n

/-- The row and column numbers of a 64 by 64 array. -/
def rowI : IVec S64x64 32 := iota .tc S64x64 32 [0] iota_S64x64_d0_w32
def colI : IVec S64x64 32 := iota .tc S64x64 32 [1] iota_S64x64_d1_w32

/-- The part strictly below the diagonal, zero elsewhere. -/
def strict (x : FVec F S64x64 .f32) : FVec F S64x64 .f32 :=
  select (cmpi .sgt rowI colI) x (broadcast S64x64 (Scalar.ofBits .f32 0x00000000#32))
/-- The part on and below the diagonal, zero elsewhere. -/
def lower (x : FVec F S64x64 .f32) : FVec F S64x64 .f32 :=
  select (cmpi .sge rowI colI) x (broadcast S64x64 (Scalar.ofBits .f32 0x00000000#32))
/-- The unit matrix. -/
def unitT : FVec F S64x64 .f32 :=
  select (cmpi .eq rowI colI) (broadcast S64x64 (Scalar.ofBits .f32 0x3F800000#32))
    (broadcast S64x64 (Scalar.ofBits .f32 0x00000000#32))

theorem slices_col (j : ℕ) (h : j < 64) : S64x64.Slices ![0, j] S64x1 :=
  ⟨rfl, fun a => by
    rcases a with ⟨_ | _ | n, ha⟩
    · show 0 + 64 ≤ 64; omega
    · show j + 1 ≤ 64; omega
    · exact absurd ha (by show ¬ (n + 2 < 2); omega)⟩
theorem slices_row (j : ℕ) (h : j < 64) : S64x64.Slices ![j, 0] S1x64 :=
  ⟨rfl, fun a => by
    rcases a with ⟨_ | _ | n, ha⟩
    · show j + 1 ≤ 64; omega
    · show 0 + 64 ≤ 64; omega
    · exact absurd ha (by show ¬ (n + 2 < 2); omega)⟩

/-- One step of the substitution: column `j` of `A` against row `j` of `t`. -/
def substStep (A t : FVec F S64x64 .f32) (j : ℕ) (h : j < 64) : FVec F S64x64 .f32 :=
  addf t (mulf
    (broadcastTo S64x64 (extractStridedSlice S64x1 ![0, j] A (slices_col j h)) broadcasts_S64x1_S64x64)
    (broadcastTo S64x64 (extractStridedSlice S1x64 ![j, 0] t (slices_row j h)) broadcasts_S1x64_S64x64))

/-- The first `n` steps of the substitution. -/
def subst (A : FVec F S64x64 .f32) : (n : ℕ) → n < 65 → FVec F S64x64 .f32
  | 0, _ => unitT
  | n + 1, h => substStep A (subst A n (by omega)) n (by omega)

/-- The chunk's solved right-hand side: what the state holds along each token's `a`. -/
def chunkU (a b k : FVec F S64x64 .f32) (v : FVec F S64x128 .bf16) (S : FVec F S64x128 .f32) : FVec F S64x128 .f32 :=
  mm6 dB (subst (strict (mm6 dA a b)) 63 (by omega)) (addf (mm6 dB a S) (mm3 dB (strict (mm6 dA a k)) v))

/-- The chunk's outputs. -/
def chunkO (a r b k : FVec F S64x64 .f32) (v : FVec F S64x128 .bf16) (S : FVec F S64x128 .f32) : FVec F S64x128 .f32 :=
  addf (addf (mm6 dB r S) (mm6 dB (lower (mm6 dA r b)) (chunkU a b k v S))) (mm3 dB (lower (mm6 dA r k)) v)

/-- The state after the chunk. -/
def chunkS (a b k : FVec F S64x64 .f32) (v : FVec F S64x128 .bf16) (S : FVec F S64x128 .f32)
    (e : FVec F S64x1 .f32) : FVec F S64x128 .f32 :=
  mulf (addf (addf S (mm6 dB b (chunkU a b k v S))) (mm3 dB k v)) (broadcastTo S64x128 e broadcasts_S64x1_S64x128)

/-- The chunk number of a row or column number. -/
def chunkNo (x : IVec S128x128 32) : IVec S128x128 32 :=
  select
    (andi
      (cmpi .ne
        (subi (extui 32 (cmpi .sgt x (broadcast S128x128 0#32)) natLt_1_32)
          (extui 32 (cmpi .slt x (broadcast S128x128 0#32)) natLt_1_32))
        (broadcast S128x128 (Scalar.subi (Scalar.extui (Scalar.cmpi .sgt 64#32 0#32) : BitVec 32)
          (Scalar.extui (Scalar.cmpi .slt 64#32 0#32)))))
      (cmpi .ne (remsi x (broadcast S128x128 64#32)) (broadcast S128x128 0#32)))
    (subi (divsi x (broadcast S128x128 64#32)) (broadcast S128x128 1#32))
    (divsi x (broadcast S128x128 64#32))

/-- One where the row is at most the column and both lie in the same chunk. -/
def triB : FVec F S128x128 .bf16 :=
  truncf .bf16
    (select (andi (cmpi .sle (iota .tc S128x128 32 [0] iota_S128x128_d0_w32) (iota .tc S128x128 32 [1] iota_S128x128_d1_w32))
        (cmpi .eq (chunkNo (iota .tc S128x128 32 [0] iota_S128x128_d0_w32))
          (chunkNo (iota .tc S128x128 32 [1] iota_S128x128_d1_w32))))
      (broadcast S128x128 (Scalar.ofBits .f32 0x3F800000#32))
      (broadcast S128x128 (Scalar.ofBits .f32 0x00000000#32))) bitsLt_bf16_f32

/-- The log decay in base two. -/
def w2 (w : FVec F S64x128 .f32) : FVec F S64x128 .f32 :=
  mulf w (broadcast S64x128 (Named.named κ "log2e" 0x3FB8AA3B#32))
/-- Its running sum inside each chunk. -/
def gsum (w : FVec F S64x128 .f32) : FVec F S64x128 .f32 :=
  mm3 dot_S64x128_S128x128_S64x128_1_0_0_1_n_n (w2 w) triB
def eg (w : FVec F S64x128 .f32) : FVec F S64x128 .f32 := exp2 (gsum w)
def inv (w : FVec F S64x128 .f32) : FVec F S64x128 .f32 :=
  exp2 (subf (broadcast S64x128 (Scalar.ofBits .f32 0x00000000#32)) (gsum w))

/-- Codes times their scales. -/
def deq (c : FVec F S64x128 .f32) (s : FVec F S1x128 .f32) : FVec F S64x128 .f32 :=
  mulf c (broadcastTo S64x128 s broadcasts_S1x128_S64x128)

/-- The four arrays the chunks read: `a` and `r` with tokens down, `b` and `k` with tokens across. -/
def hA (w ac : FVec F S64x128 .f32) (sa : FVec F S1x128 .f32) : FVec F S128x64 .f32 :=
  transpose S128x64 [1, 0] (mulf (deq ac sa) (exp2 (subf (gsum w) (w2 w)))) transposes_S64x128_p1_0_S128x64
def hR (w rc : FVec F S64x128 .f32) (sr : FVec F S1x128 .f32) : FVec F S128x64 .f32 :=
  transpose S128x64 [1, 0] (mulf (deq rc sr) (eg w)) transposes_S64x128_p1_0_S128x64
def hB (w bc : FVec F S64x128 .f32) (sb : FVec F S1x128 .f32) : FVec F S64x128 .f32 :=
  mulf (deq bc sb) (inv w)

/-- Rows (columns) of the first and of the second chunk. -/
def top (x : FVec F S128x64 .f32) : FVec F S64x64 .f32 := extractStridedSlice S64x64 ![0, 0] x slices_S128x64_o0_0_S64x64
def bot (x : FVec F S128x64 .f32) : FVec F S64x64 .f32 := extractStridedSlice S64x64 ![64, 0] x slices_S128x64_o64_0_S64x64
def left (x : FVec F S64x128 .f32) : FVec F S64x64 .f32 := extractStridedSlice S64x64 ![0, 0] x slices_S64x128_o0_0_S64x64
def right (x : FVec F S64x128 .f32) : FVec F S64x64 .f32 := extractStridedSlice S64x64 ![0, 64] x slices_S64x128_o0_64_S64x64
def topV (x : FVec F S128x128 .bf16) : FVec F S64x128 .bf16 := extractStridedSlice S64x128 ![0, 0] x slices_S128x128_o0_0_S64x128
def botV (x : FVec F S128x128 .bf16) : FVec F S64x128 .bf16 := extractStridedSlice S64x128 ![64, 0] x slices_S128x128_o64_0_S64x128

/-- The state between the two chunks. -/
def headM (w kc ac bc : FVec F S64x128 .f32) (sk sa sb : FVec F S1x128 .f32) (v : FVec F S128x128 .bf16)
    (S : FVec F S64x128 .f32) : FVec F S64x128 .f32 :=
  chunkS (top (hA w ac sa)) (left (hB w bc sb)) (left (hB w kc sk)) (topV v) S
    (extractStridedSlice S64x1 ![0, 63] (eg w) slices_S64x128_o0_63_S64x1)

/-- The head's state after the block. -/
def headS (w kc ac bc : FVec F S64x128 .f32) (sk sa sb : FVec F S1x128 .f32) (v : FVec F S128x128 .bf16)
    (S : FVec F S64x128 .f32) : FVec F S64x128 .f32 :=
  chunkS (bot (hA w ac sa)) (right (hB w bc sb)) (right (hB w kc sk)) (botV v) (headM w kc ac bc sk sa sb v S)
    (extractStridedSlice S64x1 ![0, 127] (eg w) slices_S64x128_o0_127_S64x1)

/-- The head's outputs over the block. -/
def headO (w rc kc ac bc : FVec F S64x128 .f32) (sr sk sa sb : FVec F S1x128 .f32) (v : FVec F S128x128 .bf16)
    (S : FVec F S64x128 .f32) : FVec F S128x128 .bf16 :=
  truncf .bf16
    (concatenate S128x128 0
      [⟨S64x128, chunkO (top (hA w ac sa)) (top (hR w rc sr)) (left (hB w bc sb)) (left (hB w kc sk)) (topV v) S⟩,
       ⟨S64x128, chunkO (bot (hA w ac sa)) (bot (hR w rc sr)) (right (hB w bc sb)) (right (hB w kc sk)) (botV v)
          (headM w kc ac bc sk sa sb v S)⟩]
      concatenates_S64x128_S64x128_S128x128_d0) bitsLt_bf16_f32

end Cert.KernelIdeal.Gen
-- ==== Proof.Trip.lean ====
module

public import proofs.«01_k».proof.Proof.Head
public import proofs.«01_k».proof.Proof.Gen.KernelIdeal.Loops

/-! # What one trip of the head loop stores

Four heads: for each, its 128 columns of the output and its state, both functions of what the
trip reads. -/

@[expose] public section

set_option synthInstance.maxSize 4096
set_option maxRecDepth 16384

noncomputable section

namespace Cert.KernelIdeal.Gen

open Idealize.ShloMosaic Idealize.SL.Sem
open Idealize.ShloMosaic.TcCoe

variable {F : FTy → Type} [FloatOps F] [Named F]

/-- Head `i` of trip `k` of a 40-head array of 64 by 128. -/
def ldH {e : EltTy} (M : Memref sig .tc .vmem S40x64x128 e) (X : BufTy.Contents (Elt F) M.view.ty)
    (k : Fin k0_t1_loop.trips) (i : Fin 4) : Vec F S64x128 e :=
  shapeCast S64x128 (M.view.readAt (Elt F) (Rect.unit (s := S40x64x128) (k0_off2 k (BitVec.ofNat 32 i.val)) S1x64x128.size
    (k0_off2_inb k i)).toLoadRect X) shapeCasts_S1x64x128_S64x128

/-- Row `i` of trip `k` of a 40-head array of scales. -/
def ldS (M : Memref sig .tc .vmem S40x128 .f32) (X : BufTy.Contents (Elt F) M.view.ty)
    (k : Fin k0_t1_loop.trips) (i : Fin 4) : FVec F S1x128 .f32 :=
  shapeCast S1x128 (M.view.readAt (Elt F) (Rect.unit (s := S40x128) (k0_off3 k (BitVec.ofNat 32 i.val)) S1x128.size
    (k0_off3_inb k i)).toLoadRect X) shapeCasts_S1x128_S1x128

theorem vrow_inb (i : Fin 4) : ∀ a, S128x128.size a = 0 ∨ (![i.val, 0] : Fin 2 → ℕ) a + (![4, 1] : Fin 2 → ℕ) a * (S128x128.size a - 1) < S512x128.size a := by
  revert i; decide

/-- The rows of head `i` of trip `k` in the buffer of the four heads' `v`. -/
def ldV (M : Memref sig .tc .vmem S128x40x128 .fp8e4m3) (B : Memref sig .tc .vmem S512x128 .f32)
    (X : BufTy.Contents (Elt F) M.view.ty) (k : Fin k0_t1_loop.trips) (i : Fin 4) : FVec F S128x128 .bf16 :=
  truncf .bf16 (B.view.readCov (trip_k0_t1.sl.HW_arg15_1 M X k)
    { off := ![i.val, 0], size := S128x128.size, stride := ![4, 1], inb := vrow_inb i }) bitsLt_bf16_f32

section
variable (𝒱 : Variants) (c : Dev nD) (bd : Option 𝒱.V) (i : grid0.Coords) (arg1 : Memref sig .tc .vmem S40x64x128 .fp8e4m3) (harg1 : arg1.IsWhole) (arg2 : Memref sig .tc .vmem S40x128 .f32) (harg2 : arg2.IsWhole) (arg3 : Memref sig .tc .vmem S40x64x128 .fp8e4m3) (harg3 : arg3.IsWhole) (arg4 : Memref sig .tc .vmem S40x128 .f32) (harg4 : arg4.IsWhole) (arg5 : Memref sig .tc .vmem S128x40x128 .fp8e4m3) (harg5 : arg5.IsWhole) (arg6 : Memref sig .tc .vmem S40x128 .f32) (harg6 : arg6.IsWhole) (arg7 : Memref sig .tc .vmem S40x64x128 .fp8e4m3) (harg7 : arg7.IsWhole) (arg8 : Memref sig .tc .vmem S40x128 .f32) (harg8 : arg8.IsWhole) (arg9 : Memref sig .tc .vmem S40x64x128 .fp8e4m3) (harg9 : arg9.IsWhole) (arg10 : Memref sig .tc .vmem S40x128 .f32) (harg10 : arg10.IsWhole) (arg11 : Memref sig .tc .vmem S40x64x128 .f32) (harg11 : arg11.IsWhole) (arg12 : Memref sig .tc .vmem S40x64x128 .f32) (harg12 : arg12.IsWhole) (arg13 : Memref sig .tc .vmem S128x5120 .bf16) (harg13 : arg13.IsWhole) (arg14 : Memref sig .tc .vmem S40x64x128 .f32) (harg14 : arg14.IsWhole) (arg15 : Memref sig .tc .vmem S512x128 .f32) (harg15 : arg15.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips)

/-- The state of head `i` of trip `k`. -/
def tripS (f14 : BufTy.Contents (Elt F) arg14.view.ty) (i : Fin 4) : FVec F S64x128 .f32 :=
  headS (ldH arg11 X_arg11 k i) (extf .f32 (ldH arg3 X_arg3 k i) bitsLt_fp8e4m3_f32)
    (extf .f32 (ldH arg7 X_arg7 k i) bitsLt_fp8e4m3_f32) (extf .f32 (ldH arg9 X_arg9 k i) bitsLt_fp8e4m3_f32)
    (mulf (ldS arg4 X_arg4 k i) (ldS arg6 X_arg6 k i)) (ldS arg8 X_arg8 k i) (ldS arg10 X_arg10 k i)
    (ldV arg5 arg15 X_arg5 k i) (ldH arg14 f14 k i)

/-- The outputs of head `i` of trip `k`. -/
def tripO (f14 : BufTy.Contents (Elt F) arg14.view.ty) (i : Fin 4) : FVec F S128x128 .bf16 :=
  headO (ldH arg11 X_arg11 k i) (extf .f32 (ldH arg1 X_arg1 k i) bitsLt_fp8e4m3_f32)
    (extf .f32 (ldH arg3 X_arg3 k i) bitsLt_fp8e4m3_f32)
    (extf .f32 (ldH arg7 X_arg7 k i) bitsLt_fp8e4m3_f32) (extf .f32 (ldH arg9 X_arg9 k i) bitsLt_fp8e4m3_f32)
    (ldS arg2 X_arg2 k i) (mulf (ldS arg4 X_arg4 k i) (ldS arg6 X_arg6 k i)) (ldS arg8 X_arg8 k i) (ldS arg10 X_arg10 k i)
    (ldV arg5 arg15 X_arg5 k i) (ldH arg14 f14 k i)

/-- The state of head `i` of trip `k` between its two chunks. -/
def tripM (f14 : BufTy.Contents (Elt F) arg14.view.ty) (i : Fin 4) : FVec F S64x128 .f32 :=
  headM (ldH arg11 X_arg11 k i) (extf .f32 (ldH arg3 X_arg3 k i) bitsLt_fp8e4m3_f32)
    (extf .f32 (ldH arg7 X_arg7 k i) bitsLt_fp8e4m3_f32) (extf .f32 (ldH arg9 X_arg9 k i) bitsLt_fp8e4m3_f32)
    (mulf (ldS arg4 X_arg4 k i) (ldS arg6 X_arg6 k i)) (ldS arg8 X_arg8 k i) (ldS arg10 X_arg10 k i)
    (ldV arg5 arg15 X_arg5 k i) (ldH arg14 f14 k i)

/-- `headS` from the state between the chunks. -/
theorem headS_of (w kc ac bc : FVec F S64x128 .f32) (sk sa sb : FVec F S1x128 .f32) (v : FVec F S128x128 .bf16)
    (S : FVec F S64x128 .f32) {M S' : FVec F S64x128 .f32} (hM : M = headM w kc ac bc sk sa sb v S)
    (hS : S' = chunkS (bot (hA w ac sa)) (right (hB w bc sb)) (right (hB w kc sk)) (botV v) M
      (extractStridedSlice S64x1 ![0, 127] (eg w) slices_S64x128_o0_127_S64x1)) : S' = headS w kc ac bc sk sa sb v S := by
  rw [hS, hM]; rfl

/-- `headO` from the state between the chunks. -/
theorem headO_of (w rc kc ac bc : FVec F S64x128 .f32) (sr sk sa sb : FVec F S1x128 .f32) (v : FVec F S128x128 .bf16)
    (S : FVec F S64x128 .f32) {M : FVec F S64x128 .f32} {O : FVec F S128x128 .bf16} (hM : M = headM w kc ac bc sk sa sb v S)
    (hO : O = truncf .bf16
      (concatenate S128x128 0
        [⟨S64x128, chunkO (top (hA w ac sa)) (top (hR w rc sr)) (left (hB w bc sb)) (left (hB w kc sk)) (topV v) S⟩,
         ⟨S64x128, chunkO (bot (hA w ac sa)) (bot (hR w rc sr)) (right (hB w bc sb)) (right (hB w kc sk)) (botV v) M⟩]
        concatenates_S64x128_S64x128_S128x128_d0) bitsLt_bf16_f32) : O = headO w rc kc ac bc sr sk sa sb v S := by
  rw [hO, hM]; rfl

section
variable (f14 : BufTy.Contents (Elt F) arg14.view.ty)

set_option maxHeartbeats 2000000

theorem tripM_0 : trip_k0_t1.sl.v746 (F := F) arg3 arg4 arg5 arg6 arg7 arg8 arg9 arg10 arg11 arg14 arg15 X_arg3 X_arg4 X_arg5 X_arg6 X_arg7 X_arg8 X_arg9 X_arg10 X_arg11 k f14 =
    tripM arg3 arg4 arg5 arg6 arg7 arg8 arg9 arg10 arg11 arg14 arg15 X_arg3 X_arg4 X_arg5 X_arg6 X_arg7 X_arg8 X_arg9 X_arg10 X_arg11 k f14 0 := by rfl
theorem tripS_0 : trip_k0_t1.sl.v1344 (F := F) arg3 arg4 arg5 arg6 arg7 arg8 arg9 arg10 arg11 arg14 arg15 X_arg3 X_arg4 X_arg5 X_arg6 X_arg7 X_arg8 X_arg9 X_arg10 X_arg11 k f14 =
    tripS arg3 arg4 arg5 arg6 arg7 arg8 arg9 arg10 arg11 arg14 arg15 X_arg3 X_arg4 X_arg5 X_arg6 X_arg7 X_arg8 X_arg9 X_arg10 X_arg11 k f14 0 := headS_of _ _ _ _ _ _ _ _ _ (tripM_0 arg3 arg4 arg5 arg6 arg7 arg8 arg9 arg10 arg11 arg14 arg15 X_arg3 X_arg4 X_arg5 X_arg6 X_arg7 X_arg8 X_arg9 X_arg10 X_arg11 k f14) rfl
theorem tripO_0 : trip_k0_t1.sl.v1346 (F := F) arg1 arg2 arg3 arg4 arg5 arg6 arg7 arg8 arg9 arg10 arg11 arg14 arg15 X_arg1 X_arg2 X_arg3 X_arg4 X_arg5 X_arg6 X_arg7 X_arg8 X_arg9 X_arg10 X_arg11 k f14 =
    tripO arg1 arg2 arg3 arg4 arg5 arg6 arg7 arg8 arg9 arg10 arg11 arg14 arg15 X_arg1 X_arg2 X_arg3 X_arg4 X_arg5 X_arg6 X_arg7 X_arg8 X_arg9 X_arg10 X_arg11 k f14 0 := headO_of _ _ _ _ _ _ _ _ _ _ _ (tripM_0 arg3 arg4 arg5 arg6 arg7 arg8 arg9 arg10 arg11 arg14 arg15 X_arg3 X_arg4 X_arg5 X_arg6 X_arg7 X_arg8 X_arg9 X_arg10 X_arg11 k f14) rfl

theorem tripM_1 : trip_k0_t1.sl.v2087 (F := F) arg3 arg4 arg5 arg6 arg7 arg8 arg9 arg10 arg11 arg14 arg15 X_arg3 X_arg4 X_arg5 X_arg6 X_arg7 X_arg8 X_arg9 X_arg10 X_arg11 k f14 =
    tripM arg3 arg4 arg5 arg6 arg7 arg8 arg9 arg10 arg11 arg14 arg15 X_arg3 X_arg4 X_arg5 X_arg6 X_arg7 X_arg8 X_arg9 X_arg10 X_arg11 k f14 1 := by rfl
theorem tripS_1 : trip_k0_t1.sl.v2685 (F := F) arg3 arg4 arg5 arg6 arg7 arg8 arg9 arg10 arg11 arg14 arg15 X_arg3 X_arg4 X_arg5 X_arg6 X_arg7 X_arg8 X_arg9 X_arg10 X_arg11 k f14 =
    tripS arg3 arg4 arg5 arg6 arg7 arg8 arg9 arg10 arg11 arg14 arg15 X_arg3 X_arg4 X_arg5 X_arg6 X_arg7 X_arg8 X_arg9 X_arg10 X_arg11 k f14 1 := headS_of _ _ _ _ _ _ _ _ _ (tripM_1 arg3 arg4 arg5 arg6 arg7 arg8 arg9 arg10 arg11 arg14 arg15 X_arg3 X_arg4 X_arg5 X_arg6 X_arg7 X_arg8 X_arg9 X_arg10 X_arg11 k f14) rfl
theorem tripO_1 : trip_k0_t1.sl.v2687 (F := F) arg1 arg2 arg3 arg4 arg5 arg6 arg7 arg8 arg9 arg10 arg11 arg14 arg15 X_arg1 X_arg2 X_arg3 X_arg4 X_arg5 X_arg6 X_arg7 X_arg8 X_arg9 X_arg10 X_arg11 k f14 =
    tripO arg1 arg2 arg3 arg4 arg5 arg6 arg7 arg8 arg9 arg10 arg11 arg14 arg15 X_arg1 X_arg2 X_arg3 X_arg4 X_arg5 X_arg6 X_arg7 X_arg8 X_arg9 X_arg10 X_arg11 k f14 1 := headO_of _ _ _ _ _ _ _ _ _ _ _ (tripM_1 arg3 arg4 arg5 arg6 arg7 arg8 arg9 arg10 arg11 arg14 arg15 X_arg3 X_arg4 X_arg5 X_arg6 X_arg7 X_arg8 X_arg9 X_arg10 X_arg11 k f14) rfl

theorem tripM_2 : trip_k0_t1.sl.v3428 (F := F) arg3 arg4 arg5 arg6 arg7 arg8 arg9 arg10 arg11 arg14 arg15 X_arg3 X_arg4 X_arg5 X_arg6 X_arg7 X_arg8 X_arg9 X_arg10 X_arg11 k f14 =
    tripM arg3 arg4 arg5 arg6 arg7 arg8 arg9 arg10 arg11 arg14 arg15 X_arg3 X_arg4 X_arg5 X_arg6 X_arg7 X_arg8 X_arg9 X_arg10 X_arg11 k f14 2 := by rfl
theorem tripS_2 : trip_k0_t1.sl.v4026 (F := F) arg3 arg4 arg5 arg6 arg7 arg8 arg9 arg10 arg11 arg14 arg15 X_arg3 X_arg4 X_arg5 X_arg6 X_arg7 X_arg8 X_arg9 X_arg10 X_arg11 k f14 =
    tripS arg3 arg4 arg5 arg6 arg7 arg8 arg9 arg10 arg11 arg14 arg15 X_arg3 X_arg4 X_arg5 X_arg6 X_arg7 X_arg8 X_arg9 X_arg10 X_arg11 k f14 2 := headS_of _ _ _ _ _ _ _ _ _ (tripM_2 arg3 arg4 arg5 arg6 arg7 arg8 arg9 arg10 arg11 arg14 arg15 X_arg3 X_arg4 X_arg5 X_arg6 X_arg7 X_arg8 X_arg9 X_arg10 X_arg11 k f14) rfl
theorem tripO_2 : trip_k0_t1.sl.v4028 (F := F) arg1 arg2 arg3 arg4 arg5 arg6 arg7 arg8 arg9 arg10 arg11 arg14 arg15 X_arg1 X_arg2 X_arg3 X_arg4 X_arg5 X_arg6 X_arg7 X_arg8 X_arg9 X_arg10 X_arg11 k f14 =
    tripO arg1 arg2 arg3 arg4 arg5 arg6 arg7 arg8 arg9 arg10 arg11 arg14 arg15 X_arg1 X_arg2 X_arg3 X_arg4 X_arg5 X_arg6 X_arg7 X_arg8 X_arg9 X_arg10 X_arg11 k f14 2 := headO_of _ _ _ _ _ _ _ _ _ _ _ (tripM_2 arg3 arg4 arg5 arg6 arg7 arg8 arg9 arg10 arg11 arg14 arg15 X_arg3 X_arg4 X_arg5 X_arg6 X_arg7 X_arg8 X_arg9 X_arg10 X_arg11 k f14) rfl

theorem tripM_3 : trip_k0_t1.sl.v4769 (F := F) arg3 arg4 arg5 arg6 arg7 arg8 arg9 arg10 arg11 arg14 arg15 X_arg3 X_arg4 X_arg5 X_arg6 X_arg7 X_arg8 X_arg9 X_arg10 X_arg11 k f14 =
    tripM arg3 arg4 arg5 arg6 arg7 arg8 arg9 arg10 arg11 arg14 arg15 X_arg3 X_arg4 X_arg5 X_arg6 X_arg7 X_arg8 X_arg9 X_arg10 X_arg11 k f14 3 := by rfl
theorem tripS_3 : trip_k0_t1.sl.v5367 (F := F) arg3 arg4 arg5 arg6 arg7 arg8 arg9 arg10 arg11 arg14 arg15 X_arg3 X_arg4 X_arg5 X_arg6 X_arg7 X_arg8 X_arg9 X_arg10 X_arg11 k f14 =
    tripS arg3 arg4 arg5 arg6 arg7 arg8 arg9 arg10 arg11 arg14 arg15 X_arg3 X_arg4 X_arg5 X_arg6 X_arg7 X_arg8 X_arg9 X_arg10 X_arg11 k f14 3 := headS_of _ _ _ _ _ _ _ _ _ (tripM_3 arg3 arg4 arg5 arg6 arg7 arg8 arg9 arg10 arg11 arg14 arg15 X_arg3 X_arg4 X_arg5 X_arg6 X_arg7 X_arg8 X_arg9 X_arg10 X_arg11 k f14) rfl
theorem tripO_3 : trip_k0_t1.sl.v5369 (F := F) arg1 arg2 arg3 arg4 arg5 arg6 arg7 arg8 arg9 arg10 arg11 arg14 arg15 X_arg1 X_arg2 X_arg3 X_arg4 X_arg5 X_arg6 X_arg7 X_arg8 X_arg9 X_arg10 X_arg11 k f14 =
    tripO arg1 arg2 arg3 arg4 arg5 arg6 arg7 arg8 arg9 arg10 arg11 arg14 arg15 X_arg1 X_arg2 X_arg3 X_arg4 X_arg5 X_arg6 X_arg7 X_arg8 X_arg9 X_arg10 X_arg11 k f14 3 := headO_of _ _ _ _ _ _ _ _ _ _ _ (tripM_3 arg3 arg4 arg5 arg6 arg7 arg8 arg9 arg10 arg11 arg14 arg15 X_arg3 X_arg4 X_arg5 X_arg6 X_arg7 X_arg8 X_arg9 X_arg10 X_arg11 k f14) rfl
end
end
end Cert.KernelIdeal.Gen
-- ==== Proof.TripL.lean ====
module

public import proofs.«01_k».proof.Proof.Trip
public import proofs.«01_k».proof.Proof.Gen.KernelIdeal.Loops

/-! # The stores of one trip

The two lists of stores of a trip of the head loop, as the four heads' outputs and states. -/

@[expose] public section

set_option synthInstance.maxSize 4096
set_option maxRecDepth 16384

noncomputable section

namespace Cert.KernelIdeal.Gen

open Idealize.ShloMosaic Idealize.SL.Sem
open Idealize.ShloMosaic.TcCoe

variable {F : FTy → Type} [FloatOps F] [Named F]

/-- A head's state, stored. -/
def pieceS (k : Fin k0_t1_loop.trips) (j : Fin 4) (x : FVec F S64x128 .f32) : View.Piece (Elt F) S40x64x128 .f32 :=
  Sigma.mk (β := fun r : Rect S40x64x128 => r.shape.Idx → Elt F .f32) (Rect.unit (s := S40x64x128) (k0_off2 k (BitVec.ofNat 32 j.val)) S1x64x128.size (k0_off2_inb k j))
    (shapeCast S1x64x128 x shapeCasts_S64x128_S1x64x128)

/-- A head's outputs, stored. -/
def pieceO (k : Fin k0_t1_loop.trips) (j : Fin 4) (x : FVec F S128x128 .bf16) : View.Piece (Elt F) S128x5120 .bf16 :=
  Sigma.mk (β := fun r : Rect S128x5120 => r.shape.Idx → Elt F .bf16) (Rect.unit (s := S128x5120) (k0_off4 k (BitVec.ofNat 32 j.val)) S128x128.size (k0_off4_inb k j)) x

section
variable (𝒱 : Variants) (c : Dev nD) (bd : Option 𝒱.V) (i : grid0.Coords) (arg1 : Memref sig .tc .vmem S40x64x128 .fp8e4m3) (harg1 : arg1.IsWhole) (arg2 : Memref sig .tc .vmem S40x128 .f32) (harg2 : arg2.IsWhole) (arg3 : Memref sig .tc .vmem S40x64x128 .fp8e4m3) (harg3 : arg3.IsWhole) (arg4 : Memref sig .tc .vmem S40x128 .f32) (harg4 : arg4.IsWhole) (arg5 : Memref sig .tc .vmem S128x40x128 .fp8e4m3) (harg5 : arg5.IsWhole) (arg6 : Memref sig .tc .vmem S40x128 .f32) (harg6 : arg6.IsWhole) (arg7 : Memref sig .tc .vmem S40x64x128 .fp8e4m3) (harg7 : arg7.IsWhole) (arg8 : Memref sig .tc .vmem S40x128 .f32) (harg8 : arg8.IsWhole) (arg9 : Memref sig .tc .vmem S40x64x128 .fp8e4m3) (harg9 : arg9.IsWhole) (arg10 : Memref sig .tc .vmem S40x128 .f32) (harg10 : arg10.IsWhole) (arg11 : Memref sig .tc .vmem S40x64x128 .f32) (harg11 : arg11.IsWhole) (arg12 : Memref sig .tc .vmem S40x64x128 .f32) (harg12 : arg12.IsWhole) (arg13 : Memref sig .tc .vmem S128x5120 .bf16) (harg13 : arg13.IsWhole) (arg14 : Memref sig .tc .vmem S40x64x128 .f32) (harg14 : arg14.IsWhole) (arg15 : Memref sig .tc .vmem S512x128 .f32) (harg15 : arg15.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips)

variable (f14 : BufTy.Contents (Elt F) arg14.view.ty)

/-- Trip `k` stores the four heads' states, the last head first in the list. -/
theorem tripL_S (f13 : BufTy.Contents (Elt F) arg13.view.ty) (f15 : BufTy.Contents (Elt F) arg15.view.ty) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 k f13 f14 f15).2.1 =
      ([3, 2, 1, 0] : List (Fin 4)).map fun j => pieceS k j (tripS arg3 arg4 arg5 arg6 arg7 arg8 arg9 arg10 arg11 arg14 arg15 X_arg3 X_arg4 X_arg5 X_arg6 X_arg7 X_arg8 X_arg9 X_arg10 X_arg11 k f14 j) := by
  simp only [List.map_cons, List.map_nil, ← tripS_0, ← tripS_1, ← tripS_2, ← tripS_3]
  unfold trip_k0_t1
  rfl

/-- Trip `k` stores the four heads' outputs, the last head first in the list. -/
theorem tripL_O (f13 : BufTy.Contents (Elt F) arg13.view.ty) (f15 : BufTy.Contents (Elt F) arg15.view.ty) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 k f13 f14 f15).1 =
      ([3, 2, 1, 0] : List (Fin 4)).map fun j => pieceO k j (tripO arg1 arg2 arg3 arg4 arg5 arg6 arg7 arg8 arg9 arg10 arg11 arg14 arg15 X_arg1 X_arg2 X_arg3 X_arg4 X_arg5 X_arg6 X_arg7 X_arg8 X_arg9 X_arg10 X_arg11 k f14 j) := by
  simp only [List.map_cons, List.map_nil, ← tripO_0, ← tripO_1, ← tripO_2, ← tripO_3]
  unfold trip_k0_t1
  rfl
end
end Cert.KernelIdeal.Gen
-- ==== Proof.Block.lean ====
module

public import proofs.«01_k».proof.Proof.TripL
public import Idealize.ShloMosaic.Lib.Pointwise.Index
public import Idealize.ShloMosaic.Lib.WritesUnit
public import Idealize.ShloMosaic.Lib.Pointwise.Reshape

/-! # What the ten trips leave

The block's outputs and the states after it as functions of the block's inputs and the states
before it, and the lemma that the stores of the ten trips leave exactly these, whatever the
output buffers held. -/

@[expose] public section

set_option synthInstance.maxSize 4096
set_option maxRecDepth 16384

noncomputable section

namespace Cert.KernelIdeal.Gen

open Idealize.ShloMosaic Idealize.SL.Sem
open Idealize.ShloMosaic.TcCoe

variable {F : FTy → Type} [FloatOps F] [Named F]

/-- Head `h` of a 40-head array. -/
def hd {e : EltTy} (x : Vec F S40x64x128 e) (h : Fin 40) : Vec F S64x128 e := fun j => x (ix3 h (j 0) (j 1))
/-- Row `h` of the scales. -/
def hdS (x : Vec F S40x128 .f32) (h : Fin 40) : FVec F S1x128 .f32 := fun j => x (ix2 h (j 1))
/-- The codes of head `h`, token by token. -/
def hdV (x : Vec F S128x40x128 .fp8e4m3) (h : Fin 40) : FVec F S128x128 .bf16 :=
  truncf .bf16 (extf .f32 (fun j => x (ix3 (j 0) h (j 1)) : FVec F S128x128 .fp8e4m3) bitsLt_fp8e4m3_f32) bitsLt_bf16_f32

/-- Head `4k + j`. -/
def hno (k : Fin k0_t1_loop.trips) (j : Fin 4) : Fin 40 :=
  ⟨4 * k.val + j.val, by have : k.val < 10 := Nat.lt_of_lt_of_le k.isLt k0_t1_abs.2.1; omega⟩

theorem ldH_eq {e : EltTy} (M : Memref sig .tc .vmem S40x64x128 e) (X : BufTy.Contents (Elt F) M.view.ty)
    (k : Fin k0_t1_loop.trips) (i : Fin 4) : ldH M X k i = hd (M.view.read (Elt F) X) (hno k i) := by
  funext j
  unfold ldH hd shapeCast
  rw [show Shape.reshapeEquiv shapeCasts_S1x64x128_S64x128 j = (Fin.cons ⟨0, Nat.one_pos⟩ j : S1x64x128.Idx) from
    Shape.reshapeEquiv_cons_one _ j]
  rw [View.readAt_apply]
  refine congrArg (M.view.read (Elt F) X) (funext fun a => Fin.ext ?_)
  rw [LoadRect.idx_apply]
  refine (congrArg (· + 1 * _) (congrFun (k0_off2_eq k i) a)).trans ?_
  rcases a with ⟨_ | _ | _ | n, ha⟩
  · show 4 * k.val + i.val + 1 * 0 = 4 * k.val + i.val; omega
  · show 0 + 1 * (j 0).val = (j 0).val; omega
  · show 0 + 1 * (j 1).val = (j 1).val; omega
  · exact absurd ha (by show ¬ (n + 3 < 3); omega)

theorem ldS_eq (M : Memref sig .tc .vmem S40x128 .f32) (X : BufTy.Contents (Elt F) M.view.ty)
    (k : Fin k0_t1_loop.trips) (i : Fin 4) : ldS M X k i = hdS (M.view.read (Elt F) X) (hno k i) := by
  funext j
  unfold ldS hdS shapeCast
  rw [show Shape.reshapeEquiv shapeCasts_S1x128_S1x128 j = j from Shape.reshapeEquiv_self _ j]
  rw [View.readAt_apply]
  refine congrArg (M.view.read (Elt F) X) (funext fun a => Fin.ext ?_)
  rw [LoadRect.idx_apply]
  refine (congrArg (· + 1 * _) (congrFun (k0_off3_eq k i) a)).trans ?_
  rcases a with ⟨_ | _ | n, ha⟩
  · have : (j 0).val < 1 := (j 0).isLt
    show 4 * k.val + i.val + 1 * (j 0).val = 4 * k.val + i.val; omega
  · show 0 + 1 * (j 1).val = (j 1).val; omega
  · exact absurd ha (by show ¬ (n + 2 < 2); omega)

/-- The buffer's row `4t + i` is token `t` of head `4k + i`. -/
theorem ldV_eq (M : Memref sig .tc .vmem S128x40x128 .fp8e4m3) (B : Memref sig .tc .vmem S512x128 .f32)
    (X : BufTy.Contents (Elt F) M.view.ty)
    (k : Fin k0_t1_loop.trips) (i : Fin 4) : ldV M B X k i = hdV (M.view.read (Elt F) X) (hno k i) := by
  unfold ldV hdV
  refine congrArg (fun z => truncf .bf16 z bitsLt_bf16_f32) (funext fun j => ?_)
  unfold View.readCov trip_k0_t1.sl.HW_arg15_1
  rw [View.readAt_apply]
  have hoff : (![0, 0] : Fin 2 → ℕ) = fun _ => 0 := by funext a; fin_cases a <;> rfl
  refine (View.read_writes_cons_unit_of_mem B.view _ _ _ _ _ (LoadRect.idx _ j) rfl (fun a => ?_)).trans ?_
  · exact ((congrArg (· + _) (congrFun hoff a)).trans (Nat.zero_add _)).symm
  unfold trip_k0_t1.sl.v13
  unfold trip_k0_t1.sl.v10
  rw [shapeCast_id]
  unfold trip_k0_t1.sl.v9
  refine congrArg (fun z : F .fp8e4m3 => extf .f32 (fun _ : S128x128.Idx => z) bitsLt_fp8e4m3_f32 j) (?_ :
    trip_k0_t1.sl.v8 M X k (Shape.reshapeEquiv shapeCasts_S128x4x128_S512x128 _) = M.view.read (Elt F) X (ix3 (j 0) (hno k i) (j 1)))
  unfold trip_k0_t1.sl.v8
  rw [shapeCast_id, View.readAt_apply]
  refine congrArg (M.view.read (Elt F) X) ?_
  have h1 : (j 1).val < 128 := (j 1).isLt
  have h0 : (j 0).val < 128 := (j 0).isLt
  refine (congrArg _ (Shape.reshapeEquiv_eq_of_rowMajor shapeCasts_S128x4x128_S512x128
    (y := (ix3 (j 0) i (j 1) : S128x4x128.Idx)) ?_)).trans ?_
  · refine (Shape.rowMajor_val_three _).trans (Eq.trans ?_ (Shape.rowMajor_val_two _).symm)
    show ((j 0).val * 4 + i.val) * 128 + (j 1).val = (i.val + 4 * (j 0).val) * 128 + (0 + 1 * (j 1).val)
    omega
  · refine funext fun a => Fin.ext ?_
    rw [LoadRect.idx_apply]
    refine (congrArg (· + 1 * _) (congrFun (k0_off1_eq k) a)).trans ?_
    rcases a with ⟨_ | _ | _ | n, ha⟩
    · show 0 + 1 * (j 0).val = (j 0).val; omega
    · show 4 * k.val + 1 * i.val = 4 * k.val + i.val; omega
    · show 0 + 1 * (j 1).val = (j 1).val; omega
    · exact absurd ha (by show ¬ (n + 3 < 3); omega)

/-- What a block reads: codes and scales of `r`, `k`, `v`, `a`, `b`, and the log-decays. -/
structure Inp (F : FTy → Type) where
  r : Vec F S40x64x128 .fp8e4m3
  sr : Vec F S40x128 .f32
  k : Vec F S40x64x128 .fp8e4m3
  sk : Vec F S40x128 .f32
  v : Vec F S128x40x128 .fp8e4m3
  sv : Vec F S40x128 .f32
  a : Vec F S40x64x128 .fp8e4m3
  sa : Vec F S40x128 .f32
  b : Vec F S40x64x128 .fp8e4m3
  sb : Vec F S40x128 .f32
  w : Vec F S40x64x128 .f32

/-- Head `h`'s state after the block, from its state before. -/
def blkS (I : Inp F) (h : Fin 40) (S : FVec F S64x128 .f32) : FVec F S64x128 .f32 :=
  headS (hd I.w h) (extf .f32 (hd I.k h) bitsLt_fp8e4m3_f32) (extf .f32 (hd I.a h) bitsLt_fp8e4m3_f32)
    (extf .f32 (hd I.b h) bitsLt_fp8e4m3_f32) (mulf (hdS I.sk h) (hdS I.sv h)) (hdS I.sa h) (hdS I.sb h) (hdV I.v h) S

/-- Head `h`'s outputs over the block. -/
def blkO (I : Inp F) (h : Fin 40) (S : FVec F S64x128 .f32) : FVec F S128x128 .bf16 :=
  headO (hd I.w h) (extf .f32 (hd I.r h) bitsLt_fp8e4m3_f32) (extf .f32 (hd I.k h) bitsLt_fp8e4m3_f32)
    (extf .f32 (hd I.a h) bitsLt_fp8e4m3_f32) (extf .f32 (hd I.b h) bitsLt_fp8e4m3_f32)
    (hdS I.sr h) (mulf (hdS I.sk h) (hdS I.sv h)) (hdS I.sa h) (hdS I.sb h) (hdV I.v h) S

/-- All heads' states after the block. -/
def stNew (I : Inp F) (S : Vec F S40x64x128 .f32) : Vec F S40x64x128 .f32 :=
  fun y => blkS I (y 0) (hd S (y 0)) (ix2 (y 1) (y 2))

/-- The head of an output column. -/
def colHead (y : S128x5120.Idx) : Fin 40 := ⟨(y 1).val / 128, by have : (y 1).val < 5120 := (y 1).isLt; omega⟩
/-- The channel of an output column. -/
def colChan (y : S128x5120.Idx) : Fin 128 := ⟨(y 1).val % 128, by omega⟩

/-- All heads' outputs over the block. -/
def outNew (I : Inp F) (S : Vec F S40x64x128 .f32) : Vec F S128x5120 .bf16 :=
  fun y => blkO I (colHead y) (hd S (colHead y)) (ix2 (y 0) (colChan y))

theorem off2_closed : ∀ (k : Fin k0_t1_loop.trips) (r : Fin 4), k0_off2 k (BitVec.ofNat 32 r.val) = ![4 * k.val + r.val, 0, 0] := by
  decide +kernel
theorem off4_closed : ∀ (k : Fin k0_t1_loop.trips) (r : Fin 4), k0_off4 k (BitVec.ofNat 32 r.val) = ![0, 512 * k.val + 128 * r.val] := by
  decide +kernel

section
variable (M : Memref sig .tc .vmem S40x64x128 .f32) (f : BufTy.Contents (Elt F) M.view.ty)
  (L : List (View.Piece (Elt F) S40x64x128 .f32)) (k : Fin k0_t1_loop.trips)

/-- What one stored state leaves. -/
theorem read_pieceS (j : Fin 4) (x : FVec F S64x128 .f32) (y : S40x64x128.Idx) :
    M.view.read (Elt F) (M.view.writes (Elt F) f (pieceS k j x :: L)) y =
      if (y 0).val = 4 * k.val + j.val then x (ix2 (y 1) (y 2)) else M.view.read (Elt F) (M.view.writes (Elt F) f L) y := by
  unfold pieceS
  split
  case isTrue hy =>
    refine (View.read_writes_cons_unit_of_mem M.view f _ _ _ _ (ix3 ⟨0, Nat.one_pos⟩ (y 1) (y 2) : S1x64x128.Idx) (off2_closed k j)
      (fun a => ?_)).trans ?_
    · rcases a with ⟨_ | _ | _ | n, ha⟩
      · show (y 0).val = 4 * k.val + j.val + 0; omega
      · show (y 1).val = 0 + (y 1).val; omega
      · show (y 2).val = 0 + (y 2).val; omega
      · exact absurd ha (by show ¬ (n + 3 < 3); omega)
    · show x _ = _
      refine congrArg x (Shape.reshapeEquiv_eq_of_rowMajor _ ?_)
      refine (Shape.rowMajor_val_two _).trans (Eq.trans ?_ (Shape.rowMajor_val_three _).symm)
      show (y 1).val * 128 + (y 2).val = (0 * 64 + (y 1).val) * 128 + (y 2).val
      omega
  case isFalse hy =>
    refine View.read_writes_cons_unit_of_not_mem M.view f _ _ _ _ (off2_closed k j) 0 ?_
    show (y 0).val < 4 * k.val + j.val ∨ 4 * k.val + j.val + 1 ≤ (y 0).val
    omega

theorem read_pieceS4 (x : Fin 4 → FVec F S64x128 .f32) (y : S40x64x128.Idx) :
    M.view.read (Elt F) (M.view.writes (Elt F) f ((([3, 2, 1, 0] : List (Fin 4)).map fun j => pieceS k j (x j)) ++ L)) y =
      if h : 4 * k.val ≤ (y 0).val ∧ (y 0).val < 4 * k.val + 4 then x ⟨(y 0).val - 4 * k.val, by omega⟩ (ix2 (y 1) (y 2))
      else M.view.read (Elt F) (M.view.writes (Elt F) f L) y := by
  simp only [List.map_cons, List.map_nil, List.cons_append, List.nil_append]
  rw [read_pieceS, read_pieceS, read_pieceS, read_pieceS]
  have e3 : (3 : Fin 4).val = 3 := rfl
  have e2 : (2 : Fin 4).val = 2 := rfl
  have e1 : (1 : Fin 4).val = 1 := rfl
  have e0 : (0 : Fin 4).val = 0 := rfl
  rw [e3, e2, e1, e0]
  split_ifs with h3 h2 h1 h0 <;> first
    | omega
    | rfl
    | exact congrFun (congrArg x (Fin.ext (by simp only [Fin.val_ofNat]; omega))) _
end

section
variable (M : Memref sig .tc .vmem S128x5120 .bf16) (f : BufTy.Contents (Elt F) M.view.ty)
  (L : List (View.Piece (Elt F) S128x5120 .bf16)) (k : Fin k0_t1_loop.trips)

/-- What one head's stored outputs leave. -/
theorem read_pieceO (j : Fin 4) (x : FVec F S128x128 .bf16) (y : S128x5120.Idx) :
    M.view.read (Elt F) (M.view.writes (Elt F) f (pieceO k j x :: L)) y =
      if (colHead y).val = 4 * k.val + j.val then x (ix2 (y 0) (colChan y))
      else M.view.read (Elt F) (M.view.writes (Elt F) f L) y := by
  unfold pieceO
  have hc : (colHead y).val = (y 1).val / 128 := rfl
  split
  case isTrue hy =>
    refine (View.read_writes_cons_unit_of_mem M.view f _ _ _ _ (ix2 (y 0) (colChan y) : S128x128.Idx) (off4_closed k j)
      (fun a => ?_))
    rcases a with ⟨_ | _ | n, ha⟩
    · show (y 0).val = 0 + (y 0).val; omega
    · show (y 1).val = 512 * k.val + 128 * j.val + (y 1).val % 128; omega
    · exact absurd ha (by show ¬ (n + 2 < 2); omega)
  case isFalse hy =>
    refine View.read_writes_cons_unit_of_not_mem M.view f _ _ _ _ (off4_closed k j) 1 ?_
    show (y 1).val < 512 * k.val + 128 * j.val ∨ 512 * k.val + 128 * j.val + 128 ≤ (y 1).val
    omega

theorem read_pieceO4 (x : Fin 4 → FVec F S128x128 .bf16) (y : S128x5120.Idx) :
    M.view.read (Elt F) (M.view.writes (Elt F) f ((([3, 2, 1, 0] : List (Fin 4)).map fun j => pieceO k j (x j)) ++ L)) y =
      if h : 4 * k.val ≤ (colHead y).val ∧ (colHead y).val < 4 * k.val + 4 then
        x ⟨(colHead y).val - 4 * k.val, by omega⟩ (ix2 (y 0) (colChan y))
      else M.view.read (Elt F) (M.view.writes (Elt F) f L) y := by
  simp only [List.map_cons, List.map_nil, List.cons_append, List.nil_append]
  rw [read_pieceO, read_pieceO, read_pieceO, read_pieceO]
  have e3 : (3 : Fin 4).val = 3 := rfl
  have e2 : (2 : Fin 4).val = 2 := rfl
  have e1 : (1 : Fin 4).val = 1 := rfl
  have e0 : (0 : Fin 4).val = 0 := rfl
  rw [e3, e2, e1, e0]
  split_ifs with h3 h2 h1 h0 <;> first
    | omega
    | rfl
    | exact congrFun (congrArg x (Fin.ext (by simp only [Fin.val_ofNat]; omega))) _
end

section
variable {𝒱 : Variants} {c : Dev nD} {bd : Option 𝒱.V} {i : grid0.Coords} {arg1 : Memref sig .tc .vmem S40x64x128 .fp8e4m3} {harg1 : arg1.IsWhole} {arg2 : Memref sig .tc .vmem S40x128 .f32} {harg2 : arg2.IsWhole} {arg3 : Memref sig .tc .vmem S40x64x128 .fp8e4m3} {harg3 : arg3.IsWhole} {arg4 : Memref sig .tc .vmem S40x128 .f32} {harg4 : arg4.IsWhole} {arg5 : Memref sig .tc .vmem S128x40x128 .fp8e4m3} {harg5 : arg5.IsWhole} {arg6 : Memref sig .tc .vmem S40x128 .f32} {harg6 : arg6.IsWhole} {arg7 : Memref sig .tc .vmem S40x64x128 .fp8e4m3} {harg7 : arg7.IsWhole} {arg8 : Memref sig .tc .vmem S40x128 .f32} {harg8 : arg8.IsWhole} {arg9 : Memref sig .tc .vmem S40x64x128 .fp8e4m3} {harg9 : arg9.IsWhole} {arg10 : Memref sig .tc .vmem S40x128 .f32} {harg10 : arg10.IsWhole} {arg11 : Memref sig .tc .vmem S40x64x128 .f32} {harg11 : arg11.IsWhole} {arg12 : Memref sig .tc .vmem S40x64x128 .f32} {harg12 : arg12.IsWhole} {arg13 : Memref sig .tc .vmem S128x5120 .bf16} {harg13 : arg13.IsWhole} {arg14 : Memref sig .tc .vmem S40x64x128 .f32} {harg14 : arg14.IsWhole} {arg15 : Memref sig .tc .vmem S512x128 .f32} {harg15 : arg15.IsWhole} {X_arg1 : BufTy.Contents (Elt F) arg1.view.ty} {X_arg2 : BufTy.Contents (Elt F) arg2.view.ty} {X_arg3 : BufTy.Contents (Elt F) arg3.view.ty} {X_arg4 : BufTy.Contents (Elt F) arg4.view.ty} {X_arg5 : BufTy.Contents (Elt F) arg5.view.ty} {X_arg6 : BufTy.Contents (Elt F) arg6.view.ty} {X_arg7 : BufTy.Contents (Elt F) arg7.view.ty} {X_arg8 : BufTy.Contents (Elt F) arg8.view.ty} {X_arg9 : BufTy.Contents (Elt F) arg9.view.ty} {X_arg10 : BufTy.Contents (Elt F) arg10.view.ty} {X_arg11 : BufTy.Contents (Elt F) arg11.view.ty} {G_arg13 : BufTy.Contents (Elt F) arg13.view.ty} {G_arg14 : BufTy.Contents (Elt F) arg14.view.ty} {G_arg15 : BufTy.Contents (Elt F) arg15.view.ty}

theorem tripS_eq (k : Fin k0_t1_loop.trips) (f14 : BufTy.Contents (Elt F) arg14.view.ty) (j : Fin 4) :
    tripS arg3 arg4 arg5 arg6 arg7 arg8 arg9 arg10 arg11 arg14 arg15 X_arg3 X_arg4 X_arg5 X_arg6 X_arg7 X_arg8 X_arg9 X_arg10 X_arg11 k f14 j
      = blkS { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (hno k j) (hd (arg14.view.read (Elt F) f14) (hno k j)) := by
  unfold tripS blkS
  simp only [ldH_eq, ldS_eq, ldV_eq]

theorem tripO_eq (k : Fin k0_t1_loop.trips) (f14 : BufTy.Contents (Elt F) arg14.view.ty) (j : Fin 4) :
    tripO arg1 arg2 arg3 arg4 arg5 arg6 arg7 arg8 arg9 arg10 arg11 arg14 arg15 X_arg1 X_arg2 X_arg3 X_arg4 X_arg5 X_arg6 X_arg7 X_arg8 X_arg9 X_arg10 X_arg11 k f14 j
      = blkO { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (hno k j) (hd (arg14.view.read (Elt F) f14) (hno k j)) := by
  unfold tripO blkO
  simp only [ldH_eq, ldS_eq, ldV_eq]

/-- The stores of the states through trip `k`. -/
theorem pbS_succ (k : Fin k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 (k.val + 1)).2.1 =
      (([3, 2, 1, 0] : List (Fin 4)).map fun j => pieceS k j (tripS arg3 arg4 arg5 arg6 arg7 arg8 arg9 arg10 arg11 arg14 arg15 X_arg3 X_arg4 X_arg5 X_arg6 X_arg7 X_arg8 X_arg9 X_arg10 X_arg11 k
        (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k.val).2.1) j)) ++ (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k.val).2.1 := by
  rw [pb_k0_t1_succ]
  exact congrArg (· ++ _) (tripL_S ..)

/-- The stores of the outputs through trip `k`. -/
theorem pbO_succ (k : Fin k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 (k.val + 1)).1 =
      (([3, 2, 1, 0] : List (Fin 4)).map fun j => pieceO k j (tripO arg1 arg2 arg3 arg4 arg5 arg6 arg7 arg8 arg9 arg10 arg11 arg14 arg15 X_arg1 X_arg2 X_arg3 X_arg4 X_arg5 X_arg6 X_arg7 X_arg8 X_arg9 X_arg10 X_arg11 k
        (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k.val).2.1) j)) ++ (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k.val).1 := by
  rw [pb_k0_t1_succ]
  exact congrArg (· ++ _) (tripL_O ..)

/-- The states after `k` trips: the first `4k` heads' are new. -/
theorem read_pbS (k : ℕ) (hk : k ≤ k0_t1_loop.trips) (y : S40x64x128.Idx) :
    arg14.view.read (Elt F) (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k).2.1) y =
      if (y 0).val < 4 * k then stNew { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (arg14.view.read (Elt F) G_arg14) y
      else arg14.view.read (Elt F) G_arg14 y := by
  induction k generalizing y with
  | zero => rfl
  | succ k ih =>
    have ih := fun y => ih (Nat.le_of_succ_le hk) y
    refine (congrArg (fun L => arg14.view.read (Elt F) (arg14.view.writes (Elt F) G_arg14 L) y) (pbS_succ (k := ⟨k, hk⟩))).trans ?_
    dsimp only
    rw [read_pieceS4]
    split
    case isTrue h =>
      rw [if_pos (by have := h.2; show (y 0).val < 4 * (k + 1); simp only at this; omega), tripS_eq]
      have hh : hno ⟨k, hk⟩ ⟨(y 0).val - 4 * k, by have := h.2; simp only at this; omega⟩ = y 0 :=
        Fin.ext (by have := h.1; show 4 * k + ((y 0).val - 4 * k) = _; simp only at this; omega)
      rw [hh]
      unfold stNew
      refine congrFun (congrArg _ ?_) _
      funext z
      unfold hd
      rw [ih, if_neg (by have := h.1; show ¬ ((y 0).val < 4 * k); simp only at this; omega)]
    case isFalse h =>
      rw [ih]
      simp only at h
      refine if_congr (by omega) rfl rfl

/-- The outputs after `k` trips: the first `4k` heads' are written. -/
theorem read_pbO (k : ℕ) (hk : k ≤ k0_t1_loop.trips) (y : S128x5120.Idx) :
    arg13.view.read (Elt F) (arg13.view.writes (Elt F) G_arg13 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k).1) y =
      if (colHead y).val < 4 * k then outNew { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (arg14.view.read (Elt F) G_arg14) y
      else arg13.view.read (Elt F) G_arg13 y := by
  induction k generalizing y with
  | zero => rfl
  | succ k ih =>
    have ih := fun y => ih (Nat.le_of_succ_le hk) y
    refine (congrArg (fun L => arg13.view.read (Elt F) (arg13.view.writes (Elt F) G_arg13 L) y) (pbO_succ (k := ⟨k, hk⟩))).trans ?_
    dsimp only
    rw [read_pieceO4]
    split
    case isTrue h =>
      rw [if_pos (by have := h.2; show (colHead y).val < 4 * (k + 1); simp only at this; omega), tripO_eq]
      have hh : hno ⟨k, hk⟩ ⟨(colHead y).val - 4 * k, by have := h.2; simp only at this; omega⟩ = colHead y :=
        Fin.ext (by have := h.1; show 4 * k + ((colHead y).val - 4 * k) = _; simp only at this; omega)
      rw [hh]
      unfold outNew
      refine congrFun (congrArg _ ?_) _
      funext z
      unfold hd
      rw [read_pbS _ (Nat.le_of_succ_le hk),
        if_neg (by have := h.1; show ¬ ((colHead y).val < 4 * k); simp only at this; omega)]
    case isFalse h =>
      rw [ih]
      simp only at h
      refine if_congr (by omega) rfl rfl

theorem trips_eq : k0_t1_loop.trips = 10 := by decide +kernel

/-- After the ten trips every head's state is the new one. -/
theorem read_pbS_all :
    arg14.view.read (Elt F) (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k0_t1_loop.trips).2.1) =
      stNew { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (arg14.view.read (Elt F) G_arg14) := by
  funext y
  rw [read_pbS _ le_rfl, if_pos (by have : (y 0).val < 40 := (y 0).isLt; rw [trips_eq]; omega)]

/-- After the ten trips every head's outputs are written. -/
theorem read_pbO_all :
    arg13.view.read (Elt F) (arg13.view.writes (Elt F) G_arg13 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg3 X_arg4 X_arg5 X_arg6 X_arg7 X_arg8 X_arg9 X_arg10 X_arg11 G_arg13 G_arg14 G_arg15 k0_t1_loop.trips).1) =
      outNew { r := arg1.view.read (Elt F) X_arg1, sr := arg2.view.read (Elt F) X_arg2, k := arg3.view.read (Elt F) X_arg3, sk := arg4.view.read (Elt F) X_arg4, v := arg5.view.read (Elt F) X_arg5, sv := arg6.view.read (Elt F) X_arg6, a := arg7.view.read (Elt F) X_arg7, sa := arg8.view.read (Elt F) X_arg8, b := arg9.view.read (Elt F) X_arg9, sb := arg10.view.read (Elt F) X_arg10, w := arg11.view.read (Elt F) X_arg11 } (arg14.view.read (Elt F) G_arg14) := by
  funext y
  rw [read_pbO _ le_rfl, if_pos (by have := (colHead y).isLt; rw [trips_eq]; omega)]
end

end Cert.KernelIdeal.Gen
-- ==== Proof.Run.lean ====
module

public import proofs.«01_k».proof.Proof.Pts
public import proofs.«01_k».proof.Proof.Block

/-! # The body at a grid point

On whole staging buffers the body leaves the block's outputs and the new states, from the states it
finds: at the first point those of the argument `h0`, later those the point before left. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the states start from `h0`. -/
theorem kernelRun_A (c : Dev nD) (i : grid0.Coords) (arg1 : Memref sig .tc .vmem S40x64x128 .fp8e4m3) (harg1 : arg1.IsWhole) (arg2 : Memref sig .tc .vmem S40x128 .f32) (harg2 : arg2.IsWhole) (arg3 : Memref sig .tc .vmem S40x64x128 .fp8e4m3) (harg3 : arg3.IsWhole) (arg4 : Memref sig .tc .vmem S40x128 .f32) (harg4 : arg4.IsWhole) (arg5 : Memref sig .tc .vmem S128x40x128 .fp8e4m3) (harg5 : arg5.IsWhole) (arg6 : Memref sig .tc .vmem S40x128 .f32) (harg6 : arg6.IsWhole) (arg7 : Memref sig .tc .vmem S40x64x128 .fp8e4m3) (harg7 : arg7.IsWhole) (arg8 : Memref sig .tc .vmem S40x128 .f32) (harg8 : arg8.IsWhole) (arg9 : Memref sig .tc .vmem S40x64x128 .fp8e4m3) (harg9 : arg9.IsWhole) (arg10 : Memref sig .tc .vmem S40x128 .f32) (harg10 : arg10.IsWhole) (arg11 : Memref sig .tc .vmem S40x64x128 .f32) (harg11 : arg11.IsWhole) (arg12 : Memref sig .tc .vmem S40x64x128 .f32) (harg12 : arg12.IsWhole) (arg13 : Memref sig .tc .vmem S128x5120 .bf16) (harg13 : arg13.IsWhole) (arg14 : Memref sig .tc .vmem S40x64x128 .f32) (harg14 : arg14.IsWhole) (arg15 : Memref sig .tc .vmem S512x128 .f32) (harg15 : arg15.IsWhole) (hc0 : cond0_0 i)
    (x0 : Vec F S40x64x128 .fp8e4m3) (x1 : Vec F S40x128 .f32) (x2 : Vec F S40x64x128 .fp8e4m3) (x3 : Vec F S40x128 .f32) (x4 : Vec F S128x40x128 .fp8e4m3) (x5 : Vec F S40x128 .f32) (x6 : Vec F S40x64x128 .fp8e4m3) (x7 : Vec F S40x128 .f32) (x8 : Vec F S40x64x128 .fp8e4m3) (x9 : Vec F S40x128 .f32) (x10 : Vec F S40x64x128 .f32) (x11 : Vec F S40x64x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outNew (⟨x0, x1, x2, x3, x4, x5, x6, x7, x8, x9, x10⟩ : Inp F) x11) ∗ owns (c : Thread nD τ) arg14 fullShare (stNew (⟨x0, x1, x2, x3, x4, x5, x6, x7, x8, x9, x10⟩ : Inp F) x11) ∗ (∃ d, owns (c : Thread nD τ) arg15 fullShare d)) -∗ K ⟨⟩))
          ⊢ wp frame (wpE (defs₀ (F := F)) Variants.none c none) E (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_rwkv7_eq_skeleton]; unfold cc0_rwkv7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  have hz : arg14.view.read (Elt F) (arg14.view.writes (Elt F) arg14.view.junk (kernelRun_A.sl.H13_1 c arg12 harg12 x11)) = x11 := by
    unfold kernelRun_A.sl.H13_1
    funext y
    have hoff : (![0, 0, 0] : Fin 3 → ℕ) = fun _ => 0 := by funext a; fin_cases a <;> rfl
    refine (View.read_writes_cons_unit_of_mem arg14.view _ _ _ _ _ y rfl (fun a => ?_)).trans ?_
    · exact ((congrArg (· + _) (congrFun hoff a)).trans (Nat.zero_add _)).symm
    unfold k0_pay1
    rw [shapeCast_id, View.readAt_apply, harg12.read_unread]
    refine congrArg x11 (funext fun a => Fin.ext ?_)
    rw [LoadRect.idx_apply]
    refine (congrArg (· + 1 * _) (congrFun hoff a)).trans ?_
    show 0 + 1 * (y a).val = (y a).val
    omega
  isplitl [H12]
  · iexists _; isplitr; swap; · iexact H12
    ipureintro
    refine (read_pbO_all ..).trans ?_
    simp only [hz, harg1.read_unread, harg2.read_unread, harg3.read_unread, harg4.read_unread, harg5.read_unread, harg6.read_unread, harg7.read_unread, harg8.read_unread, harg9.read_unread, harg10.read_unread, harg11.read_unread]
  isplitl [H13]
  · iexists _; isplitr; swap; · iexact H13
    ipureintro
    rw [View.writes_append]
    refine (read_pbS_all ..).trans ?_
    simp only [hz, harg1.read_unread, harg2.read_unread, harg3.read_unread, harg4.read_unread, harg5.read_unread, harg6.read_unread, harg7.read_unread, harg8.read_unread, harg9.read_unread, harg10.read_unread, harg11.read_unread]
  iexists _, _; isplitr; swap; · iexact HS0
  ipureintro; rfl

set_option maxHeartbeats 1000000 in
/-- The body at a later point: the states are those the point before left. -/
theorem kernelRun_B (c : Dev nD) (i : grid0.Coords) (arg1 : Memref sig .tc .vmem S40x64x128 .fp8e4m3) (harg1 : arg1.IsWhole) (arg2 : Memref sig .tc .vmem S40x128 .f32) (harg2 : arg2.IsWhole) (arg3 : Memref sig .tc .vmem S40x64x128 .fp8e4m3) (harg3 : arg3.IsWhole) (arg4 : Memref sig .tc .vmem S40x128 .f32) (harg4 : arg4.IsWhole) (arg5 : Memref sig .tc .vmem S128x40x128 .fp8e4m3) (harg5 : arg5.IsWhole) (arg6 : Memref sig .tc .vmem S40x128 .f32) (harg6 : arg6.IsWhole) (arg7 : Memref sig .tc .vmem S40x64x128 .fp8e4m3) (harg7 : arg7.IsWhole) (arg8 : Memref sig .tc .vmem S40x128 .f32) (harg8 : arg8.IsWhole) (arg9 : Memref sig .tc .vmem S40x64x128 .fp8e4m3) (harg9 : arg9.IsWhole) (arg10 : Memref sig .tc .vmem S40x128 .f32) (harg10 : arg10.IsWhole) (arg11 : Memref sig .tc .vmem S40x64x128 .f32) (harg11 : arg11.IsWhole) (arg12 : Memref sig .tc .vmem S40x64x128 .f32) (harg12 : arg12.IsWhole) (arg13 : Memref sig .tc .vmem S128x5120 .bf16) (harg13 : arg13.IsWhole) (arg14 : Memref sig .tc .vmem S40x64x128 .f32) (harg14 : arg14.IsWhole) (arg15 : Memref sig .tc .vmem S512x128 .f32) (harg15 : arg15.IsWhole) (hc0 : ¬cond0_0 i)
    (x0 : Vec F S40x64x128 .fp8e4m3) (x1 : Vec F S40x128 .f32) (x2 : Vec F S40x64x128 .fp8e4m3) (x3 : Vec F S40x128 .f32) (x4 : Vec F S128x40x128 .fp8e4m3) (x5 : Vec F S40x128 .f32) (x6 : Vec F S40x64x128 .fp8e4m3) (x7 : Vec F S40x128 .f32) (x8 : Vec F S40x64x128 .fp8e4m3) (x9 : Vec F S40x128 .f32) (x10 : Vec F S40x64x128 .f32) (x11 : Vec F S40x64x128 .f32) (xo13 : Vec F S40x64x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xo13 ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outNew (⟨x0, x1, x2, x3, x4, x5, x6, x7, x8, x9, x10⟩ : Inp F) xo13) ∗ owns (c : Thread nD τ) arg14 fullShare (stNew (⟨x0, x1, x2, x3, x4, x5, x6, x7, x8, x9, x10⟩ : Inp F) xo13) ∗ (∃ d, owns (c : Thread nD τ) arg15 fullShare d)) -∗ K ⟨⟩))
          ⊢ wp frame (wpE (defs₀ (F := F)) Variants.none c none) E (cc0_rwkv7 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_rwkv7_eq_skeleton]; unfold cc0_rwkv7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    refine (read_pbO_all ..).trans ?_
    simp only [harg1.read_unread, harg2.read_unread, harg3.read_unread, harg4.read_unread, harg5.read_unread, harg6.read_unread, harg7.read_unread, harg8.read_unread, harg9.read_unread, harg10.read_unread, harg11.read_unread, harg14.read_unread]
  isplitl [H13]
  · iexists _; isplitr; swap; · iexact H13
    ipureintro
    refine (read_pbS_all ..).trans ?_
    simp only [harg1.read_unread, harg2.read_unread, harg3.read_unread, harg4.read_unread, harg5.read_unread, harg6.read_unread, harg7.read_unread, harg8.read_unread, harg9.read_unread, harg10.read_unread, harg11.read_unread, harg14.read_unread]
  iexists _, _; isplitr; swap; · iexact HS0
  ipureintro; rfl

end Cert.KernelIdeal.Gen

end
-- ==== Proof.Grid.lean ====
module

public import Idealize.ShloMosaic.Lib.Claim
public import proofs.«01_k».proof.Proof.Run

/-! # The run of the whole grid

The fourteen grid points one after the other: the states are carried in the output's staging buffer
from point to point, each point's outputs are written back. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- What the body reads at point `t`. -/
def inpAt (c : Dev nD) (t : Fin cfg0.N) : Inp F :=
  ⟨iblk m c 0 t, iblk m c 1 t, iblk m c 2 t, iblk m c 3 t, iblk m c 4 t, iblk m c 5 t, iblk m c 6 t, iblk m c 7 t,
    iblk m c 8 t, iblk m c 9 t, iblk m c 10 t⟩

/-- The states after `n` points, from the initial states. -/
def stAt (c : Dev nD) : (n : ℕ) → n < cfg0.N → Vec F S40x64x128 .f32
  | 0, hn => iblk m c 11 ⟨0, hn⟩
  | n + 1, hn => stNew (inpAt m c ⟨n, Nat.lt_of_succ_lt hn⟩) (stAt c n (Nat.lt_of_succ_lt hn))

/-! ## The pipeline's proof data -/

/-- The proof data of the one pipeline on core `c`: the arrays as the region finds them (`V`); after the body at
    point `t` each input's buffer at its block and the outputs' at the block functions; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outNew (inpAt m c t) (stAt m c t.val t.isLt)
    | ⟨13, _⟩ => stNew (inpAt m c t) (stAt m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outNew (inpAt m c t) (stAt m c t.val t.isLt) := by dsimp only [dats]
theorem after0_13 (c : Dev nD) (t : Fin cfg0.N) : (dats m 0 c).after 13 t = stNew (inpAt m c t) (stAt m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 14 = 0) (d) :
    (dats m 0 c).before 13 t d = stAt m c t.val t.isLt := by
  have hN : t.val < 14 := lt_of_lt_of_eq t.isLt (show cfg0.N = 14 from N_0)
  rw [Dat.before_out_kept _ 13 rfl t (by omega) (Bool.eq_false_iff.mpr fun h => by have := (flush0_13 _).mp h; dsimp only at this; omega)
    (fun _ => rfl) (fun _ _ => rfl)]
  dsimp only [dats]
  obtain ⟨n, hn⟩ := t
  cases n with
  | zero => exact absurd (Nat.zero_mod _) h0
  | succ n => rfl

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  have hN : t.val < 14 := lt_of_lt_of_eq t.isLt (show cfg0.N = 14 from N_0)
  by_cases h0 : t.val % 14 = 0
  · have est : stAt m c t.val t.isLt = iblk m c 11 t := by
      obtain ⟨n, hn⟩ := t
      have : n = 0 := by simp only at h0 hN; omega
      subst this; rfl
    rw [est]; unfold inpAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (kernelRun_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexact HS0
    iintro ⟨H0, H1, H2, H3, H4, H5, H6, H7, H8, H9, H10, H11, H12, H13, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before0_13_B m c t h0]
    unfold inpAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (kernelRun_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [HS0]; · iexact HS0
    iintro ⟨H0, H1, H2, H3, H4, H5, H6, H7, H8, H9, H10, H11, H12, H13, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.Recur.lean ====
module

public import Mathlib.Analysis.SpecialFunctions.Exp
public import Mathlib.Algebra.BigOperators.Fin
public import Mathlib.Algebra.BigOperators.Ring.Finset
public import Mathlib.Tactic.Ring
public import Mathlib.Tactic.Linarith

/-! # The recurrence of one head and its solution over a chunk, in real numbers

A head's state has a row per channel and a column per value. One token decays every row, adds the
token's `b` times what the state holds along the token's `a`, and adds `k` times `v`. Over a run of
tokens the same state comes out of a unit lower triangular system, which the forward substitution
solves column by column. -/

@[expose] public section

noncomputable section

namespace Cert.Recur

open Finset

/-- What a token brings: the log-decay and `k`, `a`, `b`, `r` per channel, `v` per value. -/
structure Tok (K V : Type) where
  w : K → ℝ
  k : K → ℝ
  a : K → ℝ
  b : K → ℝ
  r : K → ℝ
  v : V → ℝ

variable {K V : Type} [Fintype K]

/-- What the state holds along the token's `a`. -/
def along (x : Tok K V) (S : K → V → ℝ) (e : V) : ℝ := ∑ d, S d e * x.a d

/-- The state after a token. -/
def step (x : Tok K V) (S : K → V → ℝ) (d : K) (e : V) : ℝ :=
  S d e * Real.exp (x.w d) + along x S e * x.b d + x.v e * x.k d

/-- The token's outputs, from the state after it. -/
def outp (x : Tok K V) (S : K → V → ℝ) (e : V) : ℝ := ∑ d, step x S d e * x.r d

/-- The state after `n` tokens. -/
def run (x : ℕ → Tok K V) (S : K → V → ℝ) : ℕ → K → V → ℝ
  | 0 => S
  | n + 1 => step (x n) (run x S n)

theorem run_add (x : ℕ → Tok K V) (S : K → V → ℝ) (m n : ℕ) :
    run x S (m + n) = run (fun t => x (m + t)) (run x S m) n := by
  induction n with
  | zero => rfl
  | succ n ih => exact congrArg (step (x (m + n))) ih

/-- The state after `n` tokens reads the first `n` tokens only. -/
theorem run_congr {x y : ℕ → Tok K V} (S : K → V → ℝ) (n : ℕ) (h : ∀ t < n, x t = y t) : run x S n = run y S n := by
  induction n with
  | zero => rfl
  | succ n ih =>
    show step (x n) (run x S n) = step (y n) (run y S n)
    rw [ih fun t ht => h t (by omega), h n (by omega)]

section
variable (x : ℕ → Tok K V) (S : K → V → ℝ)

/-- The log-decay up to token `t`, exclusive. -/
def cum (t : ℕ) (d : K) : ℝ := ∑ s ∈ range t, (x s).w d

/-- The token's four arrays, measured from the start of the run. -/
def sA (t : ℕ) (d : K) : ℝ := (x t).a d * Real.exp (cum x t d)
def sR (t : ℕ) (d : K) : ℝ := (x t).r d * Real.exp (cum x (t + 1) d)
def sB (t : ℕ) (d : K) : ℝ := (x t).b d * Real.exp (-cum x (t + 1) d)
def sK (t : ℕ) (d : K) : ℝ := (x t).k d * Real.exp (-cum x (t + 1) d)

/-- What the state holds along token `t`'s `a`. -/
def us (t : ℕ) (e : V) : ℝ := along (x t) (run x S t) e

/-- The state, its decay taken out, is the first state plus the tokens' contributions. -/
theorem run_eq (n : ℕ) (d : K) (e : V) : run x S n d e =
    Real.exp (cum x n d) * (S d e + ∑ t ∈ range n, (sB x t d * us x S t e + sK x t d * (x t).v e)) := by
  induction n with
  | zero => simp [cum, run]
  | succ n ih =>
    show run x S n d e * _ + us x S n e * _ + _ * _ = _
    rw [ih, sum_range_succ]
    have hc : cum x (n + 1) d = cum x n d + (x n).w d := sum_range_succ _ _
    have he : Real.exp (cum x n d + (x n).w d) * Real.exp (-(cum x n d + (x n).w d)) = 1 := by
      rw [← Real.exp_add]; simp
    unfold sB sK
    rw [hc]
    have h2 := Real.exp_add (cum x n d) ((x n).w d)
    generalize Real.exp (cum x n d + (x n).w d) = E at *
    generalize Real.exp (-(cum x n d + (x n).w d)) = I at *
    generalize (∑ t ∈ range n, ((x t).b d * Real.exp (-cum x (t + 1) d) * us x S t e + (x t).k d * Real.exp (-cum x (t + 1) d) * (x t).v e)) = Z at *
    generalize us x S n e = U at *
    have : E * (S d e + (Z + ((x n).b d * I * U + (x n).k d * I * (x n).v e))) =
      E * (S d e + Z) + (E * I) * (U * (x n).b d + (x n).v e * (x n).k d) := by ring
    rw [this, he, h2]; ring

/-- A product with the state, the decay taken out of it. -/
theorem along_run (n : ℕ) (e : V) (f : K → ℝ) : ∑ d, run x S n d e * f d =
    (∑ d, f d * Real.exp (cum x n d) * S d e) +
      ((∑ t ∈ range n, (∑ d, f d * Real.exp (cum x n d) * sB x t d) * us x S t e) +
        ∑ t ∈ range n, (∑ d, f d * Real.exp (cum x n d) * sK x t d) * (x t).v e) := by
  simp only [run_eq, sum_mul]
  rw [sum_comm (s := range n) (t := univ), sum_comm (s := range n) (t := univ), ← sum_add_distrib, ← sum_add_distrib]
  refine sum_congr rfl fun d _ => ?_
  rw [← sum_add_distrib, mul_add, add_mul, mul_sum, sum_mul]
  refine congrArg₂ (· + ·) (by ring) (sum_congr rfl fun t _ => by ring)

/-- The triangular system that the chunk's `us` solve. -/
theorem us_eq (t : ℕ) (e : V) : us x S t e =
    (∑ d, sA x t d * S d e) + ((∑ s ∈ range t, (∑ d, sA x t d * sB x s d) * us x S s e) +
      ∑ s ∈ range t, (∑ d, sA x t d * sK x s d) * (x s).v e) :=
  along_run x S t e (x t).a

/-- The outputs of token `t`. -/
theorem outp_eq (t : ℕ) (e : V) : outp (x t) (run x S t) e =
    (∑ d, sR x t d * S d e) + ((∑ s ∈ range (t + 1), (∑ d, sR x t d * sB x s d) * us x S s e) +
      ∑ s ∈ range (t + 1), (∑ d, sR x t d * sK x s d) * (x s).v e) :=
  along_run x S (t + 1) e (x t).r

end

/-! ## The forward substitution -/

section
variable {N : ℕ} (L : Fin N → Fin N → ℝ)

/-- The first `n` columns of the substitution, from the unit matrix. -/
def subR : ℕ → Fin N → Fin N → ℝ
  | 0 => fun i j => if i = j then 1 else 0
  | n + 1 => fun i j => subR n i j + if h : n < N then L i ⟨n, h⟩ * subR n ⟨n, h⟩ j else 0

variable (hL : ∀ i j, i ≤ j → L i j = 0)
include hL

/-- Row `i` is final after `i` columns. -/
theorem subR_stable (i : Fin N) (j : Fin N) (m : ℕ) : subR L (i.val + m) i j = subR L i.val i j := by
  induction m with
  | zero => rfl
  | succ m ih =>
    show subR L (i.val + m) i j + _ = _
    rw [ih]
    split
    · rw [hL i _ (by show i.val ≤ i.val + m; omega)]; ring
    · ring

theorem subR_final (i : Fin N) (j : Fin N) (n : ℕ) (h : i.val ≤ n) : subR L n i j = subR L N i j := by
  obtain ⟨m, rfl⟩ := Nat.exists_eq_add_of_le h
  have h2 := subR_stable L hL i j (N - i.val)
  rw [show i.val + (N - i.val) = N by have := i.isLt; omega] at h2
  exact (subR_stable L hL i j m).trans h2.symm

/-- After `n` columns, a row is the unit's plus the columns' rows. -/
theorem subR_sum (n : ℕ) (hn : n ≤ N) (i j : Fin N) : subR L n i j =
    (if i = j then 1 else 0) + ∑ s : Fin N, if s.val < n then L i s * subR L N s j else 0 := by
  induction n with
  | zero => simp [subR]
  | succ n ih =>
    show subR L n i j + _ = _
    rw [ih (by omega), dif_pos (show n < N by omega), subR_final L hL ⟨n, _⟩ j n le_rfl, add_assoc]
    congr 1
    have : ∀ s : Fin N, (if s.val < n + 1 then L i s * subR L N s j else 0) =
        (if s.val < n then L i s * subR L N s j else 0) + if s = ⟨n, by omega⟩ then L i s * subR L N s j else 0 := by
      intro s
      by_cases h1 : s.val < n
      · rw [if_pos (by omega), if_pos h1, if_neg (fun h => by rw [h] at h1; exact absurd h1 (lt_irrefl _)), add_zero]
      · by_cases h2 : s.val = n
        · rw [if_pos (by omega), if_neg h1, if_pos (Fin.ext h2), zero_add]
        · rw [if_neg (by omega), if_neg h1, if_neg (fun h => h2 (congrArg Fin.val h)), add_zero]
    simp only [this, sum_add_distrib, sum_ite_eq', mem_univ, if_true]

/-- The substitution's last column changes nothing, and its result times a right-hand side is the
    system's only solution. -/
theorem subR_solves (n : ℕ) (hn : n + 1 = N) (R u : Fin N → ℝ) (hu : ∀ i, u i = R i + ∑ s, L i s * u s) (i : Fin N) :
    ∑ s, subR L n i s * R s = u i := by
  have hf : ∀ i s, subR L n i s = subR L N i s := fun i s => subR_final L hL i s n (by omega)
  simp only [hf]
  have hX : ∀ i, ∑ s, subR L N i s * R s = R i + ∑ s, L i s * ∑ q, subR L N s q * R q := by
    intro i
    simp only [mul_sum]
    rw [sum_comm]
    have : ∀ s, subR L N i s * R s = (if i = s then 1 else 0) * R s + ∑ q, L i q * (subR L N q s * R s) := by
      intro s
      conv_lhs => rw [subR_sum L hL N le_rfl i s]
      rw [add_mul, sum_mul]
      congr 1
      refine sum_congr rfl fun q _ => ?_
      rw [if_pos q.isLt]; ring
    simp only [this, sum_add_distrib, ite_mul, one_mul, zero_mul, sum_ite_eq, mem_univ, if_true]
  have key : ∀ m : ℕ, ∀ i : Fin N, i.val < m → ∑ s, subR L N i s * R s = u i := by
    intro m
    induction m with
    | zero => intro i h; omega
    | succ m ih =>
      intro i hi
      rw [hX, hu]
      congr 1
      refine sum_congr rfl fun s _ => ?_
      by_cases h : i ≤ s
      · rw [hL i s h]; ring
      · rw [ih s (by have : s.val < i.val := not_le.mp h; omega)]
  exact key _ i (Nat.lt_succ_self _)

end

/-! ## A chunk -/

section
variable {N : ℕ} (x : ℕ → Tok K V) (S : K → V → ℝ)

theorem sum_range_lt (m : ℕ) (hm : m ≤ N) (f : ℕ → ℝ) :
    ∑ s ∈ range m, f s = ∑ s : Fin N, if s.val < m then f s.val else 0 := by
  rw [Fin.sum_univ_eq_sum_range (fun s => if s < m then f s else 0)]
  refine (sum_congr rfl fun s hs => (if_pos (mem_range.mp hs)).symm).trans
    (sum_subset (fun s hs => mem_range.mpr (lt_of_lt_of_le (mem_range.mp hs) hm)) fun s _ hs => if_neg fun h => hs (mem_range.mpr h))

theorem sum_range_fin (t : Fin N) (f : ℕ → ℝ) : ∑ s ∈ range t.val, f s = ∑ s : Fin N, if s < t then f s.val else 0 :=
  sum_range_lt t.val t.isLt.le f

theorem sum_range_fin' (t : Fin N) (f : ℕ → ℝ) : ∑ s ∈ range (t.val + 1), f s = ∑ s : Fin N, if s ≤ t then f s.val else 0 :=
  (sum_range_lt (t.val + 1) t.isLt f).trans (sum_congr rfl fun s _ => by
    by_cases h : s ≤ t
    · rw [if_pos h, if_pos (Nat.lt_succ_of_le h)]
    · rw [if_neg h, if_neg (fun h' => h (Nat.le_of_lt_succ h'))])

/-- The chunk's right-hand side solved by substitution is `us`. -/
theorem chunk_u (n : ℕ) (hn : n + 1 = N) (t : Fin N) (e : V) :
    ∑ s, subR (fun i j : Fin N => if j < i then ∑ d, sA x i.val d * sB x j.val d else 0) n t s *
      ((∑ d, sA x s.val d * S d e) + ∑ q : Fin N, (if q < s then ∑ d, sA x s.val d * sK x q.val d else 0) * (x q.val).v e) =
    us x S t.val e := by
  refine subR_solves _ (fun i j h => if_neg (not_lt.mpr h)) n hn _ (fun i => us x S i.val e) (fun i => ?_) t
  show us x S i.val e = _
  rw [us_eq, sum_range_fin i, sum_range_fin i]
  simp only [ite_mul, zero_mul]
  ring

/-- The chunk's outputs. -/
theorem chunk_o (t : Fin N) (e : V) :
    (∑ d, sR x t.val d * S d e) +
      (∑ s : Fin N, (if s ≤ t then ∑ d, sR x t.val d * sB x s.val d else 0) * us x S s.val e) +
      (∑ s : Fin N, (if s ≤ t then ∑ d, sR x t.val d * sK x s.val d else 0) * (x s.val).v e) =
    outp (x t.val) (run x S t.val) e := by
  rw [outp_eq, sum_range_fin' t, sum_range_fin' t]
  simp only [ite_mul, zero_mul]
  ring

/-- The state after the chunk. -/
theorem chunk_s (d : K) (e : V) :
    (S d e + (∑ s : Fin N, sB x s.val d * us x S s.val e) + ∑ s : Fin N, sK x s.val d * (x s.val).v e) * Real.exp (cum x N d) =
    run x S N d e := by
  rw [run_eq, sum_add_distrib, Fin.sum_univ_eq_sum_range (fun s => sB x s d * us x S s e),
    Fin.sum_univ_eq_sum_range (fun s => sK x s d * (x s).v e)]
  ring
end

end Cert.Recur
-- ==== Proof.Model.lean ====
module

public import Idealize.ShloMosaic.Lib.Pointwise
public import proofs.«01_k».proof.Proof.Recur

/-! # The real numbers behind the argument arrays

The arguments of both programs, element by element, as real numbers, and the tokens they make. -/

@[expose] public section

noncomputable section

namespace Cert.Recur

open Idealize.ShloMosaic

/-- The arguments in real numbers: codes by token, head and channel (or value), scales by token and head, and the
    state the recurrence starts from by head, value and channel. -/
structure Data where
  rc : Fin 1792 → Fin 40 → Fin 64 → ℝ
  rq : Fin 1792 → Fin 40 → ℝ
  kc : Fin 1792 → Fin 40 → Fin 64 → ℝ
  kq : Fin 1792 → Fin 40 → ℝ
  vc : Fin 1792 → Fin 40 → Fin 128 → ℝ
  vq : Fin 1792 → Fin 40 → ℝ
  ac : Fin 1792 → Fin 40 → Fin 64 → ℝ
  aq : Fin 1792 → Fin 40 → ℝ
  bc : Fin 1792 → Fin 40 → Fin 64 → ℝ
  bq : Fin 1792 → Fin 40 → ℝ
  w : Fin 1792 → Fin 40 → Fin 64 → ℝ
  s0 : Fin 40 → Fin 128 → Fin 64 → ℝ

/-- The argument arrays hold these numbers. -/
structure Fits (D : Data) (A0 : (⟨4, ![1, 1792, 40, 64]⟩ : Shape).Idx → BitVec 8)
    (A1 : (⟨3, ![1, 1792, 40]⟩ : Shape).Idx → EReal) (A2 : (⟨4, ![1, 1792, 40, 64]⟩ : Shape).Idx → BitVec 8)
    (A3 : (⟨3, ![1, 1792, 40]⟩ : Shape).Idx → EReal) (A4 : (⟨4, ![1, 1792, 40, 128]⟩ : Shape).Idx → BitVec 8)
    (A5 : (⟨3, ![1, 1792, 40]⟩ : Shape).Idx → EReal) (A6 : (⟨4, ![1, 1792, 40, 64]⟩ : Shape).Idx → BitVec 8)
    (A7 : (⟨3, ![1, 1792, 40]⟩ : Shape).Idx → EReal) (A8 : (⟨4, ![1, 1792, 40, 64]⟩ : Shape).Idx → BitVec 8)
    (A9 : (⟨3, ![1, 1792, 40]⟩ : Shape).Idx → EReal) (A10 : (⟨4, ![1, 1792, 40, 64]⟩ : Shape).Idx → EReal)
    (A11 : (⟨4, ![1, 40, 128, 64]⟩ : Shape).Idx → EReal) : Prop where
  r : ∀ n h d, (bitcastToFloat (F := Ideal) .fp8e4m3 A0 : _ → EReal) (ix4 0 n h d) = ((D.rc n h d : ℝ) : EReal)
  sr : ∀ n h, A1 (ix3 0 n h) = ((D.rq n h : ℝ) : EReal)
  k : ∀ n h d, (bitcastToFloat (F := Ideal) .fp8e4m3 A2 : _ → EReal) (ix4 0 n h d) = ((D.kc n h d : ℝ) : EReal)
  sk : ∀ n h, A3 (ix3 0 n h) = ((D.kq n h : ℝ) : EReal)
  v : ∀ n h e, (bitcastToFloat (F := Ideal) .fp8e4m3 A4 : _ → EReal) (ix4 0 n h e) = ((D.vc n h e : ℝ) : EReal)
  sv : ∀ n h, A5 (ix3 0 n h) = ((D.vq n h : ℝ) : EReal)
  a : ∀ n h d, (bitcastToFloat (F := Ideal) .fp8e4m3 A6 : _ → EReal) (ix4 0 n h d) = ((D.ac n h d : ℝ) : EReal)
  sa : ∀ n h, A7 (ix3 0 n h) = ((D.aq n h : ℝ) : EReal)
  b : ∀ n h d, (bitcastToFloat (F := Ideal) .fp8e4m3 A8 : _ → EReal) (ix4 0 n h d) = ((D.bc n h d : ℝ) : EReal)
  sb : ∀ n h, A9 (ix3 0 n h) = ((D.bq n h : ℝ) : EReal)
  w : ∀ n h d, A10 (ix4 0 n h d) = ((D.w n h d : ℝ) : EReal)
  s : ∀ h e d, A11 (ix4 0 h e d) = ((D.s0 h e d : ℝ) : EReal)

/-- Token number `n`, among the 1792. -/
def no (n : ℕ) : Fin 1792 := ⟨n % 1792, Nat.mod_lt _ (by norm_num)⟩

theorem no_val (n : Fin 1792) : no n.val = n := Fin.ext (Nat.mod_eq_of_lt n.isLt)

/-- A head's tokens as the reference reads them: every code times its own scale. -/
def Data.tok (D : Data) (h : Fin 40) (n : ℕ) : Tok (Fin 64) (Fin 128) where
  w d := D.w (no n) h d
  k d := D.kc (no n) h d * D.kq (no n) h
  a d := D.ac (no n) h d * D.aq (no n) h
  b d := D.bc (no n) h d * D.bq (no n) h
  r d := D.rc (no n) h d * D.rq (no n) h
  v e := D.vc (no n) h e * D.vq (no n) h

/-- A head's tokens as the kernel reads them: the scale of `v` is on `k`. -/
def Data.ktok (D : Data) (h : Fin 40) (n : ℕ) : Tok (Fin 64) (Fin 128) where
  w d := D.w (no n) h d
  k d := D.kc (no n) h d * (D.kq (no n) h * D.vq (no n) h)
  a d := D.ac (no n) h d * D.aq (no n) h
  b d := D.bc (no n) h d * D.bq (no n) h
  r d := D.rc (no n) h d * D.rq (no n) h
  v e := D.vc (no n) h e

/-- The state a head starts from. -/
def Data.init (D : Data) (h : Fin 40) (d : Fin 64) (e : Fin 128) : ℝ := D.s0 h e d

theorem step_ktok (D : Data) (h : Fin 40) (n : ℕ) (S : Fin 64 → Fin 128 → ℝ) : step (D.ktok h n) S = step (D.tok h n) S := by
  funext d e
  show S d e * Real.exp (D.w (no n) h d) + along (D.tok h n) S e * (D.tok h n).b d
      + D.vc (no n) h e * (D.kc (no n) h d * (D.kq (no n) h * D.vq (no n) h))
    = S d e * Real.exp (D.w (no n) h d) + along (D.tok h n) S e * (D.tok h n).b d
      + D.vc (no n) h e * D.vq (no n) h * (D.kc (no n) h d * D.kq (no n) h)
  ring

/-- Either way of placing the scale of `v` gives the same states … -/
theorem run_ktok (D : Data) (h : Fin 40) (S : Fin 64 → Fin 128 → ℝ) (n : ℕ) : run (D.ktok h) S n = run (D.tok h) S n := by
  induction n with
  | zero => rfl
  | succ n ih => exact (congrArg (step (D.ktok h n)) ih).trans (step_ktok D h n _)

/-- … and the same outputs. -/
theorem outp_ktok (D : Data) (h : Fin 40) (n : ℕ) (S : Fin 64 → Fin 128 → ℝ) : outp (D.ktok h n) S = outp (D.tok h n) S := by
  funext e
  show ∑ d, step (D.ktok h n) S d e * (D.tok h n).r d = ∑ d, step (D.tok h n) S d e * (D.tok h n).r d
  rw [step_ktok]

/-- Head `h`'s outputs at token `n`. -/
def Data.out (D : Data) (n : ℕ) (h : Fin 40) (e : Fin 128) : ℝ := outp (D.tok h n) (run (D.tok h) (D.init h) n) e

/-- The first result: the outputs of token `n`, the heads one after the other. -/
def Data.outArr (D : Data) (i : (⟨3, ![1, 1792, 5120]⟩ : Shape).Idx) : EReal :=
  ((D.out (i 1).val ⟨(i 2).val / 128, by have : (i 2).val < 5120 := (i 2).isLt; omega⟩ ⟨(i 2).val % 128, by omega⟩ : ℝ) : EReal)

/-- The second result: every head's state after the last token. -/
def Data.stArr (D : Data) (i : (⟨4, ![1, 40, 128, 64]⟩ : Shape).Idx) : EReal :=
  ((run (D.tok (i 1)) (D.init (i 1)) 1792 (i 3) (i 2) : ℝ) : EReal)

end Cert.Recur

end
-- ==== Proof.Lift.lean ====
module

public import proofs.«01_k».proof.Proof.Head
public import proofs.«01_k».proof.Proof.Recur
public import Idealize.ShloMosaic.Lib.Pointwise

/-! # The head's arithmetic over the reals

At the ideal instance, on finite operands, every array of the head's arithmetic is an array of
reals: the split of a number is the number and two zeros, so the passes of a product add up to the
plain product. -/

@[expose] public section

set_option synthInstance.maxSize 4096
set_option maxRecDepth 16384

noncomputable section

namespace Cert.KernelIdeal.Gen

open Idealize.ShloMosaic Idealize.SL.Sem
open Cert.Recur

/-- The two-axis array holds these reals. -/
def Is {a b : ℕ} (x : (⟨2, ![a, b]⟩ : Shape).Idx → EReal) (f : Fin a → Fin b → ℝ) : Prop :=
  ∀ i j, x (ix2 i j) = ((f i j : ℝ) : EReal)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Is.congr {a b : ℕ} {x : (⟨2, ![a, b]⟩ : Shape).Idx → EReal} {f g : Fin a → Fin b → ℝ} (h : Is x f)
    (e : ∀ i j, f i j = g i j) : Is x g := fun i j => (h i j).trans (congrArg _ (e i j))

section
variable {a b : ℕ} {x y : FVec Ideal ⟨2, ![a, b]⟩ .f32} {f g : Fin a → Fin b → ℝ}

theorem Is.p1 (h : Is x f) : Is (p1 x) f := h
theorem Is.add (h : Is x f) (h' : Is y g) : Is (addf x y) (fun i j => f i j + g i j) := fun i j => by
  show x (ix2 i j) + y (ix2 i j) = _
  rw [h, h', EReal.coe_add]
theorem Is.mul (h : Is x f) (h' : Is y g) : Is (mulf x y) (fun i j => f i j * g i j) := fun i j => by
  show x (ix2 i j) * y (ix2 i j) = _
  rw [h, h', EReal.coe_mul]
theorem Is.sub (h : Is x f) (h' : Is y g) : Is (subf x y) (fun i j => f i j - g i j) := fun i j => by
  show x (ix2 i j) - y (ix2 i j) = _
  rw [h, h', EReal.coe_sub]
theorem Is.rest (h : Is x f) : Is (rest x) (fun _ _ => 0) := (Is.sub h h).congr fun i j => sub_self _
theorem Is.p2 (h : Is x f) : Is (p2 x) (fun _ _ => 0) := h.rest
theorem Is.p3 (h : Is x f) : Is (p3 x) (fun _ _ => 0) := h.rest.rest
theorem Is.exp2 (h : Is x f) : Is (exp2 x) (fun i j => Real.exp (f i j * Real.log 2)) := fun i j => by
  show Ideal.exp2 (x (ix2 i j)) = _
  rw [h, Ideal.exp2_coe]
  exact congrArg _ ((Real.rpow_def_of_pos (by norm_num) _).trans (congrArg Real.exp (mul_comm _ _)))
end

/-- The contraction of the left's columns with the right's rows. -/
def Std {a k b : ℕ} (d : DotDims ⟨2, ![a, k]⟩ ⟨2, ![k, b]⟩ ⟨2, ![a, b]⟩) : Prop :=
  ∀ (x : (⟨2, ![a, k]⟩ : Shape).Idx → EReal) (y : (⟨2, ![k, b]⟩ : Shape).Idx → EReal) (z : (⟨2, ![a, b]⟩ : Shape).Idx → EReal) i j,
    Ideal.matmul d x y z (ix2 i j) = z (ix2 i j) + ∑ q : Fin k, x (ix2 i q) * y (ix2 q j)

theorem std_dA : Std dA := fun x y z i j => by simp only [pointwise]
theorem std_dB : Std dB := fun x y z i j => by simp only [pointwise]
theorem std_dG : Std dot_S64x128_S128x128_S64x128_1_0_0_1_n_n := fun x y z i j => by simp only [pointwise]

theorem zero_f32 : Ideal.ofBits .f32 0x00000000#32 = 0 := by simp [Ideal.ofBits, Ideal.ieee]
theorem one_f32 : Ideal.ofBits .f32 0x3F800000#32 = 1 := by
  simp [Ideal.ofBits, Ideal.ieee, -EReal.coe_mul]; norm_num

section
variable {a k b : ℕ} {d : DotDims ⟨2, ![a, k]⟩ ⟨2, ![k, b]⟩ ⟨2, ![a, b]⟩} (hd : Std d)
include hd

theorem is_mm {φ ψ : FTy} {x : FVec Ideal ⟨2, ![a, k]⟩ φ} {y : FVec Ideal ⟨2, ![k, b]⟩ ψ}
    {f : Fin a → Fin k → ℝ} {g : Fin k → Fin b → ℝ} (h : Is x f) (h' : Is y g) :
    Is (matmul d none x y (constant ⟨2, ![a, b]⟩ .f32 0x00000000#32)) (fun i j => ∑ q, f i q * g q j) := fun i j => by
  refine (hd x y _ i j).trans ?_
  rw [show (constant (F := Ideal) ⟨2, ![a, b]⟩ .f32 0x00000000#32) (ix2 i j) = (0 : EReal) from zero_f32, zero_add, ← coe_sum]
  exact Finset.sum_congr rfl fun q _ => by rw [h, h', EReal.coe_mul]

theorem is_mm3 {x : FVec Ideal ⟨2, ![a, k]⟩ .f32} {y : FVec Ideal ⟨2, ![k, b]⟩ .bf16}
    {f : Fin a → Fin k → ℝ} {g : Fin k → Fin b → ℝ} (h : Is x f) (h' : Is y g) :
    Is (mm3 d x y) (fun i j => ∑ q, f i q * g q j) :=
  (((is_mm hd h.p1 h').add (is_mm hd h.p2 h')).add (is_mm hd h.p3 h')).congr fun i j => by simp

theorem is_mm6 {x : FVec Ideal ⟨2, ![a, k]⟩ .f32} {y : FVec Ideal ⟨2, ![k, b]⟩ .f32}
    {f : Fin a → Fin k → ℝ} {g : Fin k → Fin b → ℝ} (h : Is x f) (h' : Is y g) :
    Is (mm6 d x y) (fun i j => ∑ q, f i q * g q j) :=
  ((((((is_mm hd h.p1 h'.p1).add (is_mm hd h.p1 h'.p2)).add (is_mm hd h.p2 h'.p1)).add
    (is_mm hd h.p2 h'.p2)).add (is_mm hd h.p1 h'.p3)).add (is_mm hd h.p3 h'.p1)).congr fun i j => by simp
end

/-! ## Masks and the substitution -/

theorem row_val (i j : Fin 64) : rowI (ix2 i j) = BitVec.ofNat 32 i.val := by
  unfold rowI; simp only [pointwise]
  exact congrArg (BitVec.ofNat 32) (show 0 * 64 + i.val = i.val by omega)
theorem col_val (i j : Fin 64) : colI (ix2 i j) = BitVec.ofNat 32 j.val := by
  unfold colI; simp only [pointwise]
  exact congrArg (BitVec.ofNat 32) (show 0 * 64 + j.val = j.val by omega)

theorem gt_mask : ∀ i j : Fin 64, IntOp.cmpi .sgt (BitVec.ofNat 32 i.val) (BitVec.ofNat 32 j.val) = if j < i then 1#1 else 0#1 := by
  decide +kernel
theorem ge_mask : ∀ i j : Fin 64, IntOp.cmpi .sge (BitVec.ofNat 32 i.val) (BitVec.ofNat 32 j.val) = if j ≤ i then 1#1 else 0#1 := by
  decide +kernel
theorem eq_mask : ∀ i j : Fin 64, IntOp.cmpi .eq (BitVec.ofNat 32 i.val) (BitVec.ofNat 32 j.val) = if i = j then 1#1 else 0#1 := by
  decide +kernel

theorem sel_ite {α : Type} (p : Prop) [Decidable p] (x y : α) : Scalar.select (if p then 1#1 else 0#1) x y = if p then x else y := by
  by_cases h : p
  · rw [if_pos h, if_pos h]; exact Scalar.select_of_eq_one rfl _ _
  · rw [if_neg h, if_neg h]; rfl

theorem coe_ite (p : Prop) [Decidable p] (x y : ℝ) : (if p then (x : EReal) else (y : EReal)) = ((if p then x else y : ℝ) : EReal) := by
  by_cases h : p <;> simp [h]

theorem Is.strict {x : FVec Ideal S64x64 .f32} {f : Fin 64 → Fin 64 → ℝ} (h : Is x f) :
    Is (strict x) (fun i j => if j < i then f i j else 0) := fun i j => by
  show Scalar.select (IntOp.cmpi .sgt (rowI (ix2 i j)) (colI (ix2 i j))) (x (ix2 i j)) (Ideal.ofBits .f32 0x00000000#32) = _
  rw [row_val, col_val, gt_mask, sel_ite, h, zero_f32]
  exact coe_ite _ _ _

theorem Is.lower {x : FVec Ideal S64x64 .f32} {f : Fin 64 → Fin 64 → ℝ} (h : Is x f) :
    Is (lower x) (fun i j => if j ≤ i then f i j else 0) := fun i j => by
  show Scalar.select (IntOp.cmpi .sge (rowI (ix2 i j)) (colI (ix2 i j))) (x (ix2 i j)) (Ideal.ofBits .f32 0x00000000#32) = _
  rw [row_val, col_val, ge_mask, sel_ite, h, zero_f32]
  exact coe_ite _ _ _

theorem is_unitT : Is (unitT (F := Ideal)) (fun i j => if i = j then 1 else 0) := fun i j => by
  show Scalar.select (IntOp.cmpi .eq (rowI (ix2 i j)) (colI (ix2 i j))) (Ideal.ofBits .f32 0x3F800000#32) (Ideal.ofBits .f32 0x00000000#32) = _
  rw [row_val, col_val, eq_mask, sel_ite, one_f32, zero_f32]
  exact coe_ite _ _ _

theorem is_subst {x : FVec Ideal S64x64 .f32} {f : Fin 64 → Fin 64 → ℝ} (h : Is x f) (n : ℕ) (hn : n < 65) :
    Is (subst x n hn) (subR f n) := by
  induction n with
  | zero => exact is_unitT
  | succ n ih =>
    intro i j
    have hn' : n < 64 := by omega
    show subst x n _ (ix2 i j) + broadcastTo S64x64 (extractStridedSlice S64x1 ![0, n] x (slices_col n hn')) broadcasts_S64x1_S64x64 (ix2 i j) *
      broadcastTo S64x64 (extractStridedSlice S1x64 ![n, 0] (subst x n _) (slices_row n hn')) broadcasts_S1x64_S64x64 (ix2 i j) = _
    have h1 : broadcastTo S64x64 (extractStridedSlice S64x1 ![0, n] x (slices_col n hn')) broadcasts_S64x1_S64x64 (ix2 i j) = x (ix2 i ⟨n, hn'⟩) := by
      simp only [pointwise]
      exact congrArg x (funext fun a => by fin_cases a <;> apply Fin.ext <;> simp [ix2])
    have h2 : broadcastTo S64x64 (extractStridedSlice S1x64 ![n, 0] (subst x n (by omega)) (slices_row n hn')) broadcasts_S1x64_S64x64 (ix2 i j) =
        subst x n (by omega) (ix2 ⟨n, hn'⟩ j) := by
      simp only [pointwise]
      exact congrArg (subst x n (by omega)) (funext fun a => by fin_cases a <;> apply Fin.ext <;> simp [ix2])
    rw [h1, h2, ih, ih, h, ← EReal.coe_mul, ← EReal.coe_add]
    show _ = ((subR f n i j + _ : ℝ) : EReal)
    rw [dif_pos hn']

end Cert.KernelIdeal.Gen
-- ==== Proof.Chunk.lean ====
module

public import proofs.«01_k».proof.Proof.Lift

/-! # The head over the reals is the recurrence

Two chunks of 64 tokens, each solved by substitution, leave the state that 128 tokens of the
recurrence leave, and the outputs are the tokens' outputs. -/

@[expose] public section

set_option synthInstance.maxSize 4096
set_option maxRecDepth 16384

noncomputable section

namespace Cert.KernelIdeal.Gen

open Idealize.ShloMosaic Idealize.SL.Sem
open Cert.Recur

/-! ## One chunk -/

section
variable (y : ℕ → Tok (Fin 64) (Fin 128)) {f : Fin 64 → Fin 128 → ℝ}
  {a r b k : FVec Ideal S64x64 .f32} {v : FVec Ideal S64x128 .bf16} {S : FVec Ideal S64x128 .f32} {e : FVec Ideal S64x1 .f32}

theorem is_chunkU (ha : Is a (fun t d => sA y t.val d)) (hb : Is b (fun d t => sB y t.val d)) (hk : Is k (fun d t => sK y t.val d))
    (hv : Is v (fun t e => (y t.val).v e)) (hS : Is S f) : Is (chunkU a b k v S) (fun t e => us y f t.val e) :=
  (is_mm6 std_dB (is_subst (is_mm6 std_dA ha hb).strict 63 (by omega))
    ((is_mm6 std_dB ha hS).add (is_mm3 std_dB (is_mm6 std_dA ha hk).strict hv))).congr fun t e => chunk_u y f 63 rfl t e

theorem is_chunkO (ha : Is a (fun t d => sA y t.val d)) (hr : Is r (fun t d => sR y t.val d)) (hb : Is b (fun d t => sB y t.val d))
    (hk : Is k (fun d t => sK y t.val d)) (hv : Is v (fun t e => (y t.val).v e)) (hS : Is S f) :
    Is (chunkO a r b k v S) (fun t e => outp (y t.val) (run y f t.val) e) :=
  (((is_mm6 std_dB hr hS).add (is_mm6 std_dB (is_mm6 std_dA hr hb).lower (is_chunkU y ha hb hk hv hS))).add
    (is_mm3 std_dB (is_mm6 std_dA hr hk).lower hv)).congr fun t e => chunk_o y f t e

theorem is_chunkS (ha : Is a (fun t d => sA y t.val d)) (hb : Is b (fun d t => sB y t.val d)) (hk : Is k (fun d t => sK y t.val d))
    (hv : Is v (fun t e => (y t.val).v e)) (hS : Is S f) (he : Is e (fun d _ => Real.exp (cum y 64 d))) :
    Is (chunkS a b k v S e) (run y f 64) := by
  have h1 : Is (broadcastTo S64x128 e broadcasts_S64x1_S64x128) (fun d _ => Real.exp (cum y 64 d)) := fun i j => by
    simp only [pointwise]
    exact he i 0
  exact ((((hS.add (is_mm6 std_dB hb (is_chunkU y ha hb hk hv hS))).add (is_mm3 std_dB hk hv)).mul h1)).congr fun d e => chunk_s (N := 64) y f d e
end

/-! ## The running sum of the log-decays -/

theorem chunkNo_val : ∀ t : Fin 128, chunkNo (fun _ => BitVec.ofNat 32 t.val) (ix2 0 0) = BitVec.ofNat 32 (t.val / 64) := by
  decide +kernel

theorem chunkNo_apply (x : IVec S128x128 32) (i : S128x128.Idx) : chunkNo x i = chunkNo (fun _ => x i) (ix2 0 0) := by
  unfold chunkNo
  simp only [pointwise]

theorem le_mask (i j : Fin 128) : IntOp.cmpi .sle (BitVec.ofNat 32 i.val) (BitVec.ofNat 32 j.val) = if i ≤ j then 1#1 else 0#1 := by
  have hz (t : Fin 128) : (BitVec.ofNat 32 t.val).toInt = t.val := by
    have ht := t.isLt
    have hm : t.val % 2 ^ 32 = t.val := Nat.mod_eq_of_lt (by omega)
    rw [BitVec.toInt_eq_toNat_of_lt (by rw [BitVec.toNat_ofNat, hm]; omega), BitVec.toNat_ofNat, hm]
  show BitVec.ofBool (BitVec.sle (BitVec.ofNat 32 i.val) (BitVec.ofNat 32 j.val)) = _
  unfold BitVec.sle
  rw [hz, hz]
  by_cases h : i ≤ j
  · rw [if_pos h, decide_eq_true (by have : i.val ≤ j.val := h; omega)]; rfl
  · rw [if_neg h, decide_eq_false (by have : ¬ i.val ≤ j.val := h; omega)]; rfl
theorem half_mask : ∀ i j : Fin 2, IntOp.cmpi .eq (BitVec.ofNat 32 i.val) (BitVec.ofNat 32 j.val) = if i = j then 1#1 else 0#1 := by
  decide
theorem and_mask (i j : Fin 128) : IntOp.andi (if i ≤ j then 1#1 else 0#1) (IntOp.cmpi .eq (BitVec.ofNat 32 (i.val / 64)) (BitVec.ofNat 32 (j.val / 64))) =
    if i ≤ j ∧ i.val / 64 = j.val / 64 then 1#1 else 0#1 := by
  have hi := i.isLt
  have hj := j.isLt
  refine (congrArg (IntOp.andi _) (half_mask ⟨i.val / 64, by omega⟩ ⟨j.val / 64, by omega⟩)).trans ?_
  simp only [Fin.mk.injEq]
  by_cases h1 : i ≤ j <;> by_cases h2 : i.val / 64 = j.val / 64 <;> simp only [h1, h2, and_true, and_false, if_true, if_false] <;> rfl

theorem is_triB : Is (triB (F := Ideal)) (fun i j => if i ≤ j ∧ i.val / 64 = j.val / 64 then 1 else 0) := fun i j => by
  show Scalar.select (IntOp.andi (IntOp.cmpi .sle (iota .tc S128x128 32 [0] iota_S128x128_d0_w32 (ix2 i j)) (iota .tc S128x128 32 [1] iota_S128x128_d1_w32 (ix2 i j)))
    (IntOp.cmpi .eq (chunkNo (iota .tc S128x128 32 [0] iota_S128x128_d0_w32) (ix2 i j)) (chunkNo (iota .tc S128x128 32 [1] iota_S128x128_d1_w32) (ix2 i j))))
    (Ideal.ofBits .f32 0x3F800000#32) (Ideal.ofBits .f32 0x00000000#32) = _
  have h0 : iota .tc S128x128 32 [0] iota_S128x128_d0_w32 (ix2 i j) = BitVec.ofNat 32 i.val := by
    simp only [pointwise]
    exact congrArg (BitVec.ofNat 32) (show 0 * 128 + i.val = i.val by omega)
  have h1 : iota .tc S128x128 32 [1] iota_S128x128_d1_w32 (ix2 i j) = BitVec.ofNat 32 j.val := by
    simp only [pointwise]
    exact congrArg (BitVec.ofNat 32) (show 0 * 128 + j.val = j.val by omega)
  rw [chunkNo_apply, chunkNo_apply (iota .tc S128x128 32 [1] iota_S128x128_d1_w32), h0, h1, chunkNo_val, chunkNo_val, le_mask, and_mask, sel_ite, one_f32, zero_f32]
  exact coe_ite _ _ _

theorem named_log2e : Named.named (F := Ideal) κ "log2e" (φ := .f32) 0x3FB8AA3B#32 = (((Real.log 2)⁻¹ : ℝ) : EReal) :=
  IdealRules.named_const.ideal_named_scalar _ _ _ _ rfl

theorem is_w2 {w : FVec Ideal S64x128 .f32} {fw : Fin 64 → Fin 128 → ℝ} (h : Is w fw) :
    Is (w2 w) (fun d t => fw d t * (Real.log 2)⁻¹) := fun d t => by
  show w (ix2 d t) * Named.named (F := Ideal) κ "log2e" (φ := .f32) 0x3FB8AA3B#32 = _
  rw [h, named_log2e, EReal.coe_mul]

theorem is_gsum {w : FVec Ideal S64x128 .f32} {fw : Fin 64 → Fin 128 → ℝ} (h : Is w fw) :
    Is (gsum w) (fun d t => (∑ s : Fin 128, fw d s * if s ≤ t ∧ s.val / 64 = t.val / 64 then 1 else 0) * (Real.log 2)⁻¹) :=
  (is_mm3 std_dG (is_w2 h) is_triB).congr fun d t => by
    rw [Finset.sum_mul]
    exact Finset.sum_congr rfl fun s _ => by ring

end Cert.KernelIdeal.Gen
-- ==== Proof.HeadR.lean ====
module

public import proofs.«01_k».proof.Proof.Chunk

/-! # A head's block over the reals

The two chunks' arrays, measured from each chunk's start, and the block of 128 tokens put together. -/

@[expose] public section

set_option synthInstance.maxSize 4096
set_option maxRecDepth 16384

noncomputable section

namespace Cert.KernelIdeal.Gen

open Idealize.ShloMosaic Idealize.SL.Sem
open Cert.Recur

/-- A token's number inside its block. -/
def inBlk (n : ℕ) : Fin 128 := ⟨n % 128, Nat.mod_lt _ (by norm_num)⟩

theorem inBlk_val (t : Fin 128) : inBlk t.val = t := Fin.ext (Nat.mod_eq_of_lt t.isLt)

/-- A block's real arrays for one head. -/
structure Blk where
  w : Fin 64 → Fin 128 → ℝ
  r : Fin 64 → Fin 128 → ℝ
  k : Fin 64 → Fin 128 → ℝ
  a : Fin 64 → Fin 128 → ℝ
  b : Fin 64 → Fin 128 → ℝ
  v : Fin 128 → Fin 128 → ℝ

/-- The block's tokens. -/
def Blk.tok (B : Blk) (n : ℕ) : Tok (Fin 64) (Fin 128) where
  w d := B.w d (inBlk n)
  k d := B.k d (inBlk n)
  a d := B.a d (inBlk n)
  b d := B.b d (inBlk n)
  r d := B.r d (inBlk n)
  v e := B.v (inBlk n) e

/-- The tokens of the block's chunk `c`. -/
def Blk.chunk (B : Blk) (c : ℕ) (n : ℕ) : Tok (Fin 64) (Fin 128) := B.tok (64 * c + n)

/-- The running sum inside the chunks. -/
def Blk.G (B : Blk) (d : Fin 64) (t : Fin 128) : ℝ := ∑ s : Fin 128, B.w d s * if s ≤ t ∧ s.val / 64 = t.val / 64 then 1 else 0

/-- Token `t` of chunk `c`. -/
def at64 (c : Fin 2) (t : Fin 64) : Fin 128 := ⟨64 * c.val + t.val, by omega⟩

theorem inBlk_at (c : Fin 2) (t : Fin 64) : inBlk (64 * c.val + t.val) = at64 c t := inBlk_val (at64 c t)

theorem G_at (B : Blk) (d : Fin 64) (c : Fin 2) (t : Fin 64) : B.G d (at64 c t) = cum (B.chunk c.val) (t.val + 1) d := by
  unfold Blk.G cum
  rw [sum_range_lt (N := 64) (t.val + 1) t.isLt (fun s => (B.chunk c.val s).w d)]
  refine (Fin.sum_univ_add (a := 64) (b := 64) fun s : Fin (64 + 64) => B.w d s * if s ≤ at64 c t ∧ s.val / 64 = (at64 c t).val / 64 then (1 : ℝ) else 0).trans ?_
  have hc : ∀ s : Fin 64, (B.chunk c.val s.val).w d = B.w d (at64 c s) := fun s => congrArg (B.w d) (inBlk_at c s)
  have hq : (at64 c t).val / 64 = c.val := by show (64 * c.val + t.val) / 64 = c.val; omega
  simp only [hc, hq, mul_ite, mul_one, mul_zero]
  have hlo : ∀ s : Fin 64, (Fin.castAdd 64 s).val = s.val := fun s => rfl
  have hhi : ∀ s : Fin 64, (Fin.natAdd 64 s).val = 64 + s.val := fun s => rfl
  have hcc : c = 0 ∨ c = 1 := by omega
  rcases hcc with rfl | rfl
  · refine (congrArg₂ (· + ·) (Finset.sum_congr rfl fun s _ => ?_) (Finset.sum_eq_zero fun s _ => ?_)).trans (add_zero _)
    · rw [show at64 0 s = Fin.castAdd 64 s from Fin.ext (by show 64 * 0 + s.val = s.val; omega)]
      refine if_congr ?_ rfl rfl
      rw [Fin.le_def, hlo]
      show s.val ≤ 64 * 0 + t.val ∧ s.val / 64 = 0 ↔ s.val < t.val + 1
      omega
    · refine if_neg ?_
      rw [hhi]
      show ¬ (_ ∧ (64 + s.val) / 64 = 0)
      omega
  · refine (congrArg₂ (· + ·) (Finset.sum_eq_zero fun s _ => ?_) (Finset.sum_congr rfl fun s _ => ?_)).trans (zero_add _)
    · refine if_neg ?_
      rw [hlo]
      show ¬ (_ ∧ s.val / 64 = 1)
      omega
    · rw [show at64 1 s = Fin.natAdd 64 s from Fin.ext (by show 64 * 1 + s.val = 64 + s.val; omega)]
      refine if_congr ?_ rfl rfl
      rw [Fin.le_def, hhi]
      show 64 + s.val ≤ 64 * 1 + t.val ∧ (64 + s.val) / 64 = 1 ↔ s.val < t.val + 1
      omega

section
variable {B : Blk} {w rc kc ac bc S : FVec Ideal S64x128 .f32} {sr sk sa sb : FVec Ideal S1x128 .f32} {v : FVec Ideal S128x128 .bf16}
  {f : Fin 64 → Fin 128 → ℝ}

theorem log2_ne : Real.log 2 ≠ 0 := (Real.log_pos (by norm_num)).ne'

theorem is_eg (hw : Is w B.w) : Is (eg w) (fun d t => Real.exp (B.G d t)) :=
  (is_gsum hw).exp2.congr fun d t => congrArg Real.exp (inv_mul_cancel_right₀ log2_ne _)

theorem is_zero : Is (broadcast S64x128 (Scalar.ofBits (F := Ideal) .f32 0x00000000#32)) (fun _ _ => 0) := fun _ _ => zero_f32

theorem is_inv (hw : Is w B.w) : Is (inv w) (fun d t => Real.exp (-B.G d t)) :=
  (is_zero.sub (is_gsum hw)).exp2.congr fun d t => congrArg Real.exp (by
    rw [zero_sub, neg_mul]; exact congrArg Neg.neg (inv_mul_cancel_right₀ log2_ne _))

theorem is_trans {x : FVec Ideal S64x128 .f32} {g : Fin 64 → Fin 128 → ℝ} (h : Is x g) :
    Is (transpose S128x64 [1, 0] x transposes_S64x128_p1_0_S128x64) (fun t d => g d t) := fun t d => by
  simp only [pointwise]
  exact h d t

theorem is_hA (hw : Is w B.w) (ha : Is (deq ac sa) B.a) : Is (hA w ac sa) (fun t d => B.a d t * Real.exp (B.G d t - B.w d t)) :=
  is_trans (ha.mul (((is_gsum hw).sub (is_w2 hw)).exp2.congr fun d t => congrArg Real.exp (by
    rw [← sub_mul]; exact inv_mul_cancel_right₀ log2_ne _)))

theorem is_hR (hw : Is w B.w) (hr : Is (deq rc sr) B.r) : Is (hR w rc sr) (fun t d => B.r d t * Real.exp (B.G d t)) :=
  is_trans (hr.mul (is_eg hw))

theorem is_hB {g : Fin 64 → Fin 128 → ℝ} (hw : Is w B.w) (hb : Is (deq bc sb) g) : Is (hB w bc sb) (fun d t => g d t * Real.exp (-B.G d t)) :=
  hb.mul (is_inv hw)

/-! ## The two halves -/

theorem is_top {x : FVec Ideal S128x64 .f32} {g : Fin 128 → Fin 64 → ℝ} (h : Is x g) : Is (top x) (fun i j => g (at64 0 i) j) := fun i j => by
  unfold top
  simp only [pointwise]
  exact (congrArg x (funext fun a => by fin_cases a <;> apply Fin.ext <;> simp [ix2, at64])).trans (h (at64 0 i) j)
theorem is_bot {x : FVec Ideal S128x64 .f32} {g : Fin 128 → Fin 64 → ℝ} (h : Is x g) : Is (bot x) (fun i j => g (at64 1 i) j) := fun i j => by
  unfold bot
  simp only [pointwise]
  exact (congrArg x (funext fun a => by fin_cases a <;> apply Fin.ext <;> simp [ix2, at64])).trans (h (at64 1 i) j)
theorem is_left {x : FVec Ideal S64x128 .f32} {g : Fin 64 → Fin 128 → ℝ} (h : Is x g) : Is (left x) (fun i j => g i (at64 0 j)) := fun i j => by
  unfold left
  simp only [pointwise]
  exact (congrArg x (funext fun a => by fin_cases a <;> apply Fin.ext <;> simp [ix2, at64])).trans (h i (at64 0 j))
theorem is_right {x : FVec Ideal S64x128 .f32} {g : Fin 64 → Fin 128 → ℝ} (h : Is x g) : Is (right x) (fun i j => g i (at64 1 j)) := fun i j => by
  unfold right
  simp only [pointwise]
  exact (congrArg x (funext fun a => by fin_cases a <;> apply Fin.ext <;> simp [ix2, at64])).trans (h i (at64 1 j))
theorem is_topV {x : FVec Ideal S128x128 .bf16} {g : Fin 128 → Fin 128 → ℝ} (h : Is x g) : Is (topV x) (fun i j => g (at64 0 i) j) := fun i j => by
  unfold topV
  simp only [pointwise]
  exact (congrArg x (funext fun a => by fin_cases a <;> apply Fin.ext <;> simp [ix2, at64])).trans (h (at64 0 i) j)
theorem is_botV {x : FVec Ideal S128x128 .bf16} {g : Fin 128 → Fin 128 → ℝ} (h : Is x g) : Is (botV x) (fun i j => g (at64 1 i) j) := fun i j => by
  unfold botV
  simp only [pointwise]
  exact (congrArg x (funext fun a => by fin_cases a <;> apply Fin.ext <;> simp [ix2, at64])).trans (h (at64 1 i) j)

theorem sA_at (B : Blk) (c : Fin 2) (t : Fin 64) (d : Fin 64) : B.a d (at64 c t) * Real.exp (B.G d (at64 c t) - B.w d (at64 c t)) = sA (B.chunk c.val) t.val d := by
  rw [G_at]
  unfold sA cum
  rw [Finset.sum_range_succ]
  show _ = B.a d (inBlk (64 * c.val + t.val)) * _
  rw [show (B.chunk c.val t.val).w d = B.w d (inBlk (64 * c.val + t.val)) from rfl, inBlk_at, add_sub_cancel_right]
theorem sR_at (B : Blk) (c : Fin 2) (t : Fin 64) (d : Fin 64) : B.r d (at64 c t) * Real.exp (B.G d (at64 c t)) = sR (B.chunk c.val) t.val d := by
  rw [G_at]
  show _ = B.r d (inBlk (64 * c.val + t.val)) * _
  rw [inBlk_at]
theorem sB_at (B : Blk) (c : Fin 2) (t : Fin 64) (d : Fin 64) : B.b d (at64 c t) * Real.exp (-B.G d (at64 c t)) = sB (B.chunk c.val) t.val d := by
  rw [G_at]
  show _ = B.b d (inBlk (64 * c.val + t.val)) * _
  rw [inBlk_at]
theorem sK_at (B : Blk) (c : Fin 2) (t : Fin 64) (d : Fin 64) : B.k d (at64 c t) * Real.exp (-B.G d (at64 c t)) = sK (B.chunk c.val) t.val d := by
  rw [G_at]
  show _ = B.k d (inBlk (64 * c.val + t.val)) * _
  rw [inBlk_at]
theorem v_at (B : Blk) (c : Fin 2) (t : Fin 64) (e : Fin 128) : B.v (at64 c t) e = (B.chunk c.val t.val).v e := by
  show _ = B.v (inBlk (64 * c.val + t.val)) e
  rw [inBlk_at]

theorem is_e0 (hw : Is w B.w) : Is (extractStridedSlice S64x1 ![0, 63] (eg w) slices_S64x128_o0_63_S64x1) (fun d _ => Real.exp (cum (B.chunk 0) 64 d)) := fun d j => by
  simp only [pointwise]
  refine (congrArg (eg w) (funext fun a => by fin_cases a <;> apply Fin.ext <;> simp [ix2, at64])).trans ((is_eg hw d (at64 0 63)).trans ?_)
  exact congrArg (fun z : ℝ => ((Real.exp z : ℝ) : EReal)) (G_at B d 0 63)
theorem is_e1 (hw : Is w B.w) : Is (extractStridedSlice S64x1 ![0, 127] (eg w) slices_S64x128_o0_127_S64x1) (fun d _ => Real.exp (cum (B.chunk 1) 64 d)) := fun d j => by
  simp only [pointwise]
  refine (congrArg (eg w) (funext fun a => by fin_cases a <;> apply Fin.ext <;> simp [ix2, at64])).trans ((is_eg hw d (at64 1 63)).trans ?_)
  exact congrArg (fun z : ℝ => ((Real.exp z : ℝ) : EReal)) (G_at B d 1 63)

variable (hw : Is w B.w) (hr : Is (deq rc sr) B.r) (hk : Is (deq kc sk) B.k) (ha : Is (deq ac sa) B.a) (hb : Is (deq bc sb) B.b)
  (hv : Is v B.v) (hS : Is S f)

include hw hk ha hb hv hS in
theorem is_headM : Is (headM w kc ac bc sk sa sb v S) (run (B.chunk 0) f 64) :=
  is_chunkS (B.chunk 0) ((is_top (is_hA hw ha)).congr fun t d => sA_at B 0 t d) ((is_left (is_hB hw hb)).congr fun d t => sB_at B 0 t d)
    ((is_left (is_hB hw hk)).congr fun d t => sK_at B 0 t d) ((is_topV hv).congr fun t e => v_at B 0 t e) hS (is_e0 hw)

include hw hk ha hb hv hS in
/-- The head's state after the block is the recurrence's. -/
theorem is_headS : Is (headS w kc ac bc sk sa sb v S) (run B.tok f 128) := by
  have h := is_chunkS (B.chunk 1) ((is_bot (is_hA hw ha)).congr fun t d => sA_at B 1 t d) ((is_right (is_hB hw hb)).congr fun d t => sB_at B 1 t d)
    ((is_right (is_hB hw hk)).congr fun d t => sK_at B 1 t d) ((is_botV hv).congr fun t e => v_at B 1 t e) (is_headM hw hk ha hb hv hS) (is_e1 hw)
  have e0 : B.chunk 0 = B.tok := funext fun n => congrArg B.tok (by omega)
  have := run_add B.tok f 64 64
  rw [e0] at h
  exact h.congr fun d e => (congrFun (congrFun this d) e).symm

include hw hr hk ha hb hv hS in
/-- The head's outputs over the block are the tokens'. -/
theorem is_headO : Is (headO w rc kc ac bc sr sk sa sb v S) (fun t e => outp (B.tok t.val) (run B.tok f t.val) e) := by
  have e0 : B.chunk 0 = B.tok := funext fun n => congrArg B.tok (by omega)
  have h0 := is_chunkO (B.chunk 0) ((is_top (is_hA hw ha)).congr fun t d => sA_at B 0 t d) ((is_top (is_hR hw hr)).congr fun t d => sR_at B 0 t d)
    ((is_left (is_hB hw hb)).congr fun d t => sB_at B 0 t d)
    ((is_left (is_hB hw hk)).congr fun d t => sK_at B 0 t d) ((is_topV hv).congr fun t e => v_at B 0 t e) hS
  have h1 := is_chunkO (B.chunk 1) ((is_bot (is_hA hw ha)).congr fun t d => sA_at B 1 t d) ((is_bot (is_hR hw hr)).congr fun t d => sR_at B 1 t d)
    ((is_right (is_hB hw hb)).congr fun d t => sB_at B 1 t d)
    ((is_right (is_hB hw hk)).congr fun d t => sK_at B 1 t d) ((is_botV hv).congr fun t e => v_at B 1 t e) (is_headM hw hk ha hb hv hS)
  rw [e0] at h0
  rw [e0] at h1
  intro t e
  unfold headO
  simp only [pointwise]
  have ht := t.isLt
  by_cases h : t.val < 64
  · rw [dif_pos h]
    exact h0 ⟨t.val, h⟩ e
  · rw [dif_neg h]
    obtain ⟨n, hn⟩ := Nat.exists_eq_add_of_le (not_lt.mp h)
    have hn' : n < 64 := by omega
    refine (congrArg (chunkO (bot (hA w ac sa)) (bot (hR w rc sr)) (right (hB w bc sb)) (right (hB w kc sk)) (botV v)
      (headM w kc ac bc sk sa sb v S)) (?_ : _ = ix2 ⟨n, hn'⟩ e)).trans ((h1 ⟨n, hn'⟩ e).trans ?_)
    · refine funext fun a => ?_
      fin_cases a <;> apply Fin.ext <;> simp [ix2]
      omega
    · rw [hn, run_add]
      rfl
end

end Cert.KernelIdeal.Gen
-- ==== Proof.Entry.lean ====
module

public import Idealize.ShloMosaic.Lib.Claim
public import Idealize.ShloMosaic.Lib.Pointwise
public import Idealize.ShloMosaic.Lib.Pipeline.ValueKit.Geometry
public import proofs.«01_k».proof.Proof.Gen.KernelIdeal.Frame

/-! # What the kernel's grid points read

Each input block, element by element, as an element of an argument array. -/

@[expose] public section

set_option synthInstance.maxSize 4096
set_option maxRecDepth 16384

noncomputable section

namespace Cert.KernelIdeal.Gen

open Idealize.ShloMosaic Idealize.ShloMosaic.TcCoe Idealize.SL.Sem

variable {F : FTy → Type} [FloatOps F] [Named F]
variable (m : (ℓ : Loc nD τ sig) → Buf (Elt F) ℓ)

/-- A token's number in the whole sequence. -/
def tokNo (t : Fin cfg0.N) (j : Fin 128) : Fin 1792 :=
  ⟨t.val * 128 + j.val, by have := t.isLt; have : cfg0.N = 14 := N_0; omega⟩

theorem V_r (c : Dev nD) : V m c main_v6 =
    transpose S40x64x1792 [1, 2, 0] (shapeCast S1792x40x64 (bitcastToFloat .fp8e4m3 (m ((c : Thread nD τ).loc main_arg0)) : Vec F S1x1792x40x64 .fp8e4m3) shapeCasts_S1x1792x40x64_S1792x40x64)
      transposes_S1792x40x64_S40x64x1792_1_2_0 := by
  simp only [hostOps0, List.flatten_cons, List.flatten_nil, List.append_nil, StableHlo.after_cons, StableHlo.after_nil]
  after_results_loop
  try rfl

theorem index0 : ∀ t : Fin cfg0.N, win0_0.index t = ![0, 0, t.val] := (by decide +kernel : ∀ t : Fin grid0.N, _)

theorem iblk_r (c : Dev nD) (t : Fin cfg0.N) (h : Fin 40) (d : Fin 64) (j : Fin 128) :
    iblk m c 0 t (ix3 h d j) = (bitcastToFloat .fp8e4m3 (m ((c : Thread nD τ).loc main_arg0)) : Vec F S1x1792x40x64 .fp8e4m3) (ix4 0 (tokNo t j) h d) := by
  have e : iblk m c 0 t (ix3 h d j) = V m c main_v6 (ix3 h d (tokNo t j)) := by
    blk_simp [iblk, index0]
    refine congrArg (V m c main_v6) ?_
    blk_ext [index0]
    exact rfl
  rw [e, V_r]
  simp only [pointwise]

theorem V_sr (c : Dev nD) : V m c main_v8 =
    transpose S40x1792 [1, 0] (shapeCast S1792x40 (m ((c : Thread nD τ).loc main_arg1)) shapeCasts_S1x1792x40_S1792x40)
      transposes_S1792x40_S40x1792_1_0 := by
  simp only [hostOps0, List.flatten_cons, List.flatten_nil, List.append_nil, StableHlo.after_cons, StableHlo.after_nil]
  after_results_loop
  try rfl

theorem index1 : ∀ t : Fin cfg0.N, win0_1.index t = ![0, t.val] := (by decide +kernel : ∀ t : Fin grid0.N, _)

theorem iblk_sr (c : Dev nD) (t : Fin cfg0.N) (h : Fin 40) (j : Fin 128) :
    iblk m c 1 t (ix2 h j) = (m ((c : Thread nD τ).loc main_arg1)) (ix3 0 (tokNo t j) h) := by
  have e : iblk m c 1 t (ix2 h j) = V m c main_v8 (ix2 h (tokNo t j)) := by
    blk_simp [iblk, index1]
    refine congrArg (V m c main_v8) ?_
    blk_ext [index1]
    exact rfl
  rw [e, V_sr]
  simp only [pointwise]

theorem V_k (c : Dev nD) : V m c main_v10 =
    transpose S40x64x1792 [1, 2, 0] (shapeCast S1792x40x64 (bitcastToFloat .fp8e4m3 (m ((c : Thread nD τ).loc main_arg2)) : Vec F S1x1792x40x64 .fp8e4m3) shapeCasts_S1x1792x40x64_S1792x40x64)
      transposes_S1792x40x64_S40x64x1792_1_2_0 := by
  simp only [hostOps0, List.flatten_cons, List.flatten_nil, List.append_nil, StableHlo.after_cons, StableHlo.after_nil]
  after_results_loop
  try rfl

theorem index2 : ∀ t : Fin cfg0.N, win0_2.index t = ![0, 0, t.val] := (by decide +kernel : ∀ t : Fin grid0.N, _)

theorem iblk_k (c : Dev nD) (t : Fin cfg0.N) (h : Fin 40) (d : Fin 64) (j : Fin 128) :
    iblk m c 2 t (ix3 h d j) = (bitcastToFloat .fp8e4m3 (m ((c : Thread nD τ).loc main_arg2)) : Vec F S1x1792x40x64 .fp8e4m3) (ix4 0 (tokNo t j) h d) := by
  have e : iblk m c 2 t (ix3 h d j) = V m c main_v10 (ix3 h d (tokNo t j)) := by
    blk_simp [iblk, index2]
    refine congrArg (V m c main_v10) ?_
    blk_ext [index2]
    exact rfl
  rw [e, V_k]
  simp only [pointwise]

theorem V_sk (c : Dev nD) : V m c main_v12 =
    transpose S40x1792 [1, 0] (shapeCast S1792x40 (m ((c : Thread nD τ).loc main_arg3)) shapeCasts_S1x1792x40_S1792x40)
      transposes_S1792x40_S40x1792_1_0 := by
  simp only [hostOps0, List.flatten_cons, List.flatten_nil, List.append_nil, StableHlo.after_cons, StableHlo.after_nil]
  after_results_loop
  try rfl

theorem index3 : ∀ t : Fin cfg0.N, win0_3.index t = ![0, t.val] := (by decide +kernel : ∀ t : Fin grid0.N, _)

theorem iblk_sk (c : Dev nD) (t : Fin cfg0.N) (h : Fin 40) (j : Fin 128) :
    iblk m c 3 t (ix2 h j) = (m ((c : Thread nD τ).loc main_arg3)) (ix3 0 (tokNo t j) h) := by
  have e : iblk m c 3 t (ix2 h j) = V m c main_v12 (ix2 h (tokNo t j)) := by
    blk_simp [iblk, index3]
    refine congrArg (V m c main_v12) ?_
    blk_ext [index3]
    exact rfl
  rw [e, V_sk]
  simp only [pointwise]

theorem V_v (c : Dev nD) : V m c main_v13 =
    shapeCast S1792x40x128 (bitcastToFloat .fp8e4m3 (m ((c : Thread nD τ).loc main_arg4)) : Vec F S1x1792x40x128 .fp8e4m3) shapeCasts_S1x1792x40x128_S1792x40x128 := by
  unfold V V0
  simp only [hostOps0, List.flatten_cons, List.flatten_nil, List.append_nil, StableHlo.after_cons, StableHlo.after_nil]
  after_results_loop
  try rfl

theorem index4 : ∀ t : Fin cfg0.N, win0_4.index t = ![t.val, 0, 0] := (by decide +kernel : ∀ t : Fin grid0.N, _)

theorem iblk_v (c : Dev nD) (t : Fin cfg0.N) (j : Fin 128) (h : Fin 40) (e : Fin 128) :
    iblk m c 4 t (ix3 j h e) = (bitcastToFloat .fp8e4m3 (m ((c : Thread nD τ).loc main_arg4)) : Vec F S1x1792x40x128 .fp8e4m3) (ix4 0 (tokNo t j) h e) := by
  have e : iblk m c 4 t (ix3 j h e) = V m c main_v13 (ix3 (tokNo t j) h e) := by
    blk_simp [iblk, index4]
    refine congrArg (V m c main_v13) ?_
    blk_ext [index4]
    exact rfl
  rw [e, V_v]
  simp only [pointwise]

theorem V_h0 (c : Dev nD) : V m c main_v27 =
    transpose S40x64x128 [0, 2, 1] (shapeCast S40x128x64 (m ((c : Thread nD τ).loc main_arg11)) shapeCasts_S1x40x128x64_S40x128x64)
      transposes_S40x128x64_S40x64x128_0_2_1 := by
  simp only [hostOps0, List.flatten_cons, List.flatten_nil, List.append_nil, StableHlo.after_cons, StableHlo.after_nil]
  after_results_loop
  try rfl

theorem index11 : ∀ t : Fin cfg0.N, win0_11.index t = ![0, 0, 0] := (by decide +kernel : ∀ t : Fin grid0.N, _)

theorem iblk_h0 (c : Dev nD) (t : Fin cfg0.N) (h : Fin 40) (d : Fin 64) (e : Fin 128) :
    iblk m c 11 t (ix3 h d e) = (m ((c : Thread nD τ).loc main_arg11)) (ix4 0 h e d) := by
  have e : iblk m c 11 t (ix3 h d e) = V m c main_v27 (ix3 h d e) := by
    blk_simp [iblk, index11]
    refine congrArg (V m c main_v27) ?_
    blk_ext [index11]
  rw [e, V_h0]
  simp only [pointwise]

theorem V_sv (c : Dev nD) : V m c main_v15 =
    transpose S40x1792 [1, 0] (shapeCast S1792x40 (m ((c : Thread nD τ).loc main_arg5)) shapeCasts_S1x1792x40_S1792x40)
      transposes_S1792x40_S40x1792_1_0 := by
  simp only [hostOps0, List.flatten_cons, List.flatten_nil, List.append_nil, StableHlo.after_cons, StableHlo.after_nil]
  after_results_loop
  try rfl

theorem index5 : ∀ t : Fin cfg0.N, win0_5.index t = ![0, t.val] := (by decide +kernel : ∀ t : Fin grid0.N, _)

theorem iblk_sv (c : Dev nD) (t : Fin cfg0.N) (h : Fin 40) (j : Fin 128) :
    iblk m c 5 t (ix2 h j) = (m ((c : Thread nD τ).loc main_arg5)) (ix3 0 (tokNo t j) h) := by
  have e : iblk m c 5 t (ix2 h j) = V m c main_v15 (ix2 h (tokNo t j)) := by
    blk_simp [iblk, index5]
    refine congrArg (V m c main_v15) ?_
    blk_ext [index5]
    exact rfl
  rw [e, V_sv]
  simp only [pointwise]

theorem V_a (c : Dev nD) : V m c main_v17 =
    transpose S40x64x1792 [1, 2, 0] (shapeCast S1792x40x64 (bitcastToFloat .fp8e4m3 (m ((c : Thread nD τ).loc main_arg6)) : Vec F S1x1792x40x64 .fp8e4m3) shapeCasts_S1x1792x40x64_S1792x40x64)
      transposes_S1792x40x64_S40x64x1792_1_2_0 := by
  simp only [hostOps0, List.flatten_cons, List.flatten_nil, List.append_nil, StableHlo.after_cons, StableHlo.after_nil]
  after_results_loop
  try rfl

theorem index6 : ∀ t : Fin cfg0.N, win0_6.index t = ![0, 0, t.val] := (by decide +kernel : ∀ t : Fin grid0.N, _)

theorem iblk_a (c : Dev nD) (t : Fin cfg0.N) (h : Fin 40) (d : Fin 64) (j : Fin 128) :
    iblk m c 6 t (ix3 h d j) = (bitcastToFloat .fp8e4m3 (m ((c : Thread nD τ).loc main_arg6)) : Vec F S1x1792x40x64 .fp8e4m3) (ix4 0 (tokNo t j) h d) := by
  have e : iblk m c 6 t (ix3 h d j) = V m c main_v17 (ix3 h d (tokNo t j)) := by
    blk_simp [iblk, index6]
    refine congrArg (V m c main_v17) ?_
    blk_ext [index6]
    exact rfl
  rw [e, V_a]
  simp only [pointwise]

theorem V_sa (c : Dev nD) : V m c main_v19 =
    transpose S40x1792 [1, 0] (shapeCast S1792x40 (m ((c : Thread nD τ).loc main_arg7)) shapeCasts_S1x1792x40_S1792x40)
      transposes_S1792x40_S40x1792_1_0 := by
  simp only [hostOps0, List.flatten_cons, List.flatten_nil, List.append_nil, StableHlo.after_cons, StableHlo.after_nil]
  after_results_loop
  try rfl

theorem index7 : ∀ t : Fin cfg0.N, win0_7.index t = ![0, t.val] := (by decide +kernel : ∀ t : Fin grid0.N, _)

theorem iblk_sa (c : Dev nD) (t : Fin cfg0.N) (h : Fin 40) (j : Fin 128) :
    iblk m c 7 t (ix2 h j) = (m ((c : Thread nD τ).loc main_arg7)) (ix3 0 (tokNo t j) h) := by
  have e : iblk m c 7 t (ix2 h j) = V m c main_v19 (ix2 h (tokNo t j)) := by
    blk_simp [iblk, index7]
    refine congrArg (V m c main_v19) ?_
    blk_ext [index7]
    exact rfl
  rw [e, V_sa]
  simp only [pointwise]

theorem V_b (c : Dev nD) : V m c main_v21 =
    transpose S40x64x1792 [1, 2, 0] (shapeCast S1792x40x64 (bitcastToFloat .fp8e4m3 (m ((c : Thread nD τ).loc main_arg8)) : Vec F S1x1792x40x64 .fp8e4m3) shapeCasts_S1x1792x40x64_S1792x40x64)
      transposes_S1792x40x64_S40x64x1792_1_2_0 := by
  simp only [hostOps0, List.flatten_cons, List.flatten_nil, List.append_nil, StableHlo.after_cons, StableHlo.after_nil]
  after_results_loop
  try rfl

theorem index8 : ∀ t : Fin cfg0.N, win0_8.index t = ![0, 0, t.val] := (by decide +kernel : ∀ t : Fin grid0.N, _)

theorem iblk_b (c : Dev nD) (t : Fin cfg0.N) (h : Fin 40) (d : Fin 64) (j : Fin 128) :
    iblk m c 8 t (ix3 h d j) = (bitcastToFloat .fp8e4m3 (m ((c : Thread nD τ).loc main_arg8)) : Vec F S1x1792x40x64 .fp8e4m3) (ix4 0 (tokNo t j) h d) := by
  have e : iblk m c 8 t (ix3 h d j) = V m c main_v21 (ix3 h d (tokNo t j)) := by
    blk_simp [iblk, index8]
    refine congrArg (V m c main_v21) ?_
    blk_ext [index8]
    exact rfl
  rw [e, V_b]
  simp only [pointwise]

theorem V_sb (c : Dev nD) : V m c main_v23 =
    transpose S40x1792 [1, 0] (shapeCast S1792x40 (m ((c : Thread nD τ).loc main_arg9)) shapeCasts_S1x1792x40_S1792x40)
      transposes_S1792x40_S40x1792_1_0 := by
  simp only [hostOps0, List.flatten_cons, List.flatten_nil, List.append_nil, StableHlo.after_cons, StableHlo.after_nil]
  after_results_loop
  try rfl

theorem index9 : ∀ t : Fin cfg0.N, win0_9.index t = ![0, t.val] := (by decide +kernel : ∀ t : Fin grid0.N, _)

theorem iblk_sb (c : Dev nD) (t : Fin cfg0.N) (h : Fin 40) (j : Fin 128) :
    iblk m c 9 t (ix2 h j) = (m ((c : Thread nD τ).loc main_arg9)) (ix3 0 (tokNo t j) h) := by
  have e : iblk m c 9 t (ix2 h j) = V m c main_v23 (ix2 h (tokNo t j)) := by
    blk_simp [iblk, index9]
    refine congrArg (V m c main_v23) ?_
    blk_ext [index9]
    exact rfl
  rw [e, V_sb]
  simp only [pointwise]

theorem V_w (c : Dev nD) : V m c main_v25 =
    transpose S40x64x1792 [1, 2, 0] (shapeCast S1792x40x64 (m ((c : Thread nD τ).loc main_arg10)) shapeCasts_S1x1792x40x64_S1792x40x64)
      transposes_S1792x40x64_S40x64x1792_1_2_0 := by
  simp only [hostOps0, List.flatten_cons, List.flatten_nil, List.append_nil, StableHlo.after_cons, StableHlo.after_nil]
  after_results_loop
  try rfl

theorem index10 : ∀ t : Fin cfg0.N, win0_10.index t = ![0, 0, t.val] := (by decide +kernel : ∀ t : Fin grid0.N, _)

theorem iblk_w (c : Dev nD) (t : Fin cfg0.N) (h : Fin 40) (d : Fin 64) (j : Fin 128) :
    iblk m c 10 t (ix3 h d j) = (m ((c : Thread nD τ).loc main_arg10)) (ix4 0 (tokNo t j) h d) := by
  have e : iblk m c 10 t (ix3 h d j) = V m c main_v25 (ix3 h d (tokNo t j)) := by
    blk_simp [iblk, index10]
    refine congrArg (V m c main_v25) ?_
    blk_ext [index10]
    exact rfl
  rw [e, V_w]
  simp only [pointwise]

end Cert.KernelIdeal.Gen

end
-- ==== Proof.KVal.lean ====
module

public import proofs.«01_k».proof.Proof.Model
public import proofs.«01_k».proof.Proof.HeadR
public import proofs.«01_k».proof.Proof.Entry
public import proofs.«01_k».proof.Proof.Grid

/-! # What the kernel computes

The states after each grid point, and each point's outputs, as the recurrence's over the real numbers behind the
argument arrays; then the two result arrays. -/

@[expose] public section

set_option synthInstance.maxSize 4096
set_option maxRecDepth 16384

noncomputable section

namespace Cert.KernelIdeal.Gen

open Idealize.ShloMosaic Idealize.ShloMosaic.TcCoe Idealize.SL.Sem
open Cert.Recur

variable (m : (ℓ : Loc nD τ sig) → Buf (Elt Ideal) ℓ)

/-- The argument arrays of core `c` hold the numbers `D`. -/
abbrev FitsAt (D : Data) (c : Dev nD) : Prop :=
  Fits D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- Head `h`'s block at point `t`. -/
def blkAt (D : Data) (t : Fin cfg0.N) (h : Fin 40) : Blk where
  w d j := D.w (tokNo t j) h d
  r d j := D.rc (tokNo t j) h d * D.rq (tokNo t j) h
  k d j := D.kc (tokNo t j) h d * (D.kq (tokNo t j) h * D.vq (tokNo t j) h)
  a d j := D.ac (tokNo t j) h d * D.aq (tokNo t j) h
  b d j := D.bc (tokNo t j) h d * D.bq (tokNo t j) h
  v j e := D.vc (tokNo t j) h e

theorem tok_eq (D : Data) (t : Fin cfg0.N) (h : Fin 40) (n : ℕ) (hn : n < 128) :
    (blkAt D t h).tok n = D.ktok h (t.val * 128 + n) := by
  have hN : t.val < 14 := lt_of_lt_of_eq t.isLt (show cfg0.N = 14 from N_0)
  have e : tokNo t (inBlk n) = no (t.val * 128 + n) := Fin.ext (by
    show t.val * 128 + n % 128 = (t.val * 128 + n) % 1792
    omega)
  unfold Blk.tok blkAt Data.ktok
  simp only [e]

variable {m} {D : Data} {c : Dev nD} (fit : FitsAt m D c)

/-- A row of scales spread over the channels, under the codes. -/
theorem deq_at (x : FVec Ideal S64x128 .f32) (s : FVec Ideal S1x128 .f32) (d : Fin 64) (j : Fin 128) (p q : ℝ)
    (hx : x (ix2 d j) = ((p : ℝ) : EReal)) (hs : s (ix2 0 j) = ((q : ℝ) : EReal)) :
    deq x s (ix2 d j) = ((p * q : ℝ) : EReal) := by
  have e : deq x s (ix2 d j) = x (ix2 d j) * s (ix2 0 j) := by
    unfold deq
    simp only [pointwise]
    rfl
  rw [e, hx, hs, EReal.coe_mul]

section
variable (t : Fin cfg0.N) (h : Fin 40)
include fit

theorem at_w : Is (hd (inpAt m c t).w h) (blkAt D t h).w := fun d j =>
  (iblk_w m c t h d j).trans (fit.w _ _ _)
theorem at_r : Is (deq (extf .f32 (hd (inpAt m c t).r h) bitsLt_fp8e4m3_f32) (hdS (inpAt m c t).sr h)) (blkAt D t h).r := fun d j =>
  deq_at _ _ _ _ _ _ ((iblk_r m c t h d j).trans (fit.r _ _ _)) ((iblk_sr m c t h j).trans (fit.sr _ _))
theorem at_a : Is (deq (extf .f32 (hd (inpAt m c t).a h) bitsLt_fp8e4m3_f32) (hdS (inpAt m c t).sa h)) (blkAt D t h).a := fun d j =>
  deq_at _ _ _ _ _ _ ((iblk_a m c t h d j).trans (fit.a _ _ _)) ((iblk_sa m c t h j).trans (fit.sa _ _))
theorem at_b : Is (deq (extf .f32 (hd (inpAt m c t).b h) bitsLt_fp8e4m3_f32) (hdS (inpAt m c t).sb h)) (blkAt D t h).b := fun d j =>
  deq_at _ _ _ _ _ _ ((iblk_b m c t h d j).trans (fit.b _ _ _)) ((iblk_sb m c t h j).trans (fit.sb _ _))
theorem at_k : Is (deq (extf .f32 (hd (inpAt m c t).k h) bitsLt_fp8e4m3_f32) (mulf (hdS (inpAt m c t).sk h) (hdS (inpAt m c t).sv h)))
    (blkAt D t h).k := fun d j =>
  deq_at _ _ _ _ _ _ ((iblk_k m c t h d j).trans (fit.k _ _ _))
    ((congrArg₂ (fun x y : EReal => x * y) ((iblk_sk m c t h j).trans (fit.sk _ _)) ((iblk_sv m c t h j).trans (fit.sv _ _))).trans (EReal.coe_mul _ _).symm)
theorem at_v : Is (hdV (inpAt m c t).v h) (blkAt D t h).v := fun j e =>
  (iblk_v m c t j h e).trans (fit.v _ _ _)

/-- The state before a point, head by head. -/
theorem is_stAt : ∀ (n : ℕ) (hn : n < cfg0.N), Is (hd (stAt m c n hn) h) (run (D.tok h) (D.init h) (n * 128))
  | 0, hn => fun d e => (iblk_h0 m c ⟨0, hn⟩ h d e).trans (fit.s _ _ _)
  | n + 1, hn => by
    have hn' : n < cfg0.N := Nat.lt_of_succ_lt hn
    have ih := is_stAt n hn'
    have hs := is_headS (at_w fit ⟨n, hn'⟩ h) (at_k fit ⟨n, hn'⟩ h) (at_a fit ⟨n, hn'⟩ h) (at_b fit ⟨n, hn'⟩ h) (at_v fit ⟨n, hn'⟩ h) ih
    have e : run (blkAt D ⟨n, hn'⟩ h).tok (run (D.tok h) (D.init h) (n * 128)) 128 = run (D.tok h) (D.init h) ((n + 1) * 128) := by
      rw [run_congr _ 128 (fun j hj => tok_eq D ⟨n, hn'⟩ h j hj), ← run_ktok, ← run_ktok, ← run_add]
      exact congrArg _ (by show n * 128 + 128 = (n + 1) * 128; omega)
    exact fun d e' => (hs d e').trans (congrArg (fun f : Fin 64 → Fin 128 → ℝ => ((f d e' : ℝ) : EReal)) e)

/-- The state a point leaves, head by head. -/
theorem stNew_at (d : Fin 64) (e : Fin 128) : stNew (inpAt m c t) (stAt m c t.val t.isLt) (ix3 h d e)
    = ((run (D.tok h) (D.init h) ((t.val + 1) * 128) d e : ℝ) : EReal) := by
  have hs := is_headS (at_w fit t h) (at_k fit t h) (at_a fit t h) (at_b fit t h) (at_v fit t h) (is_stAt fit h t.val t.isLt)
  have e' : run (blkAt D t h).tok (run (D.tok h) (D.init h) (t.val * 128)) 128 = run (D.tok h) (D.init h) ((t.val + 1) * 128) := by
    rw [run_congr _ 128 (fun j hj => tok_eq D t h j hj), ← run_ktok, ← run_ktok, ← run_add]
    exact congrArg _ (by omega)
  exact (hs d e).trans (congrArg (fun f : Fin 64 → Fin 128 → ℝ => ((f d e : ℝ) : EReal)) e')

/-- What a point writes, head by head. -/
theorem blkO_at (j : Fin 128) (e : Fin 128) : blkO (inpAt m c t) h (hd (stAt m c t.val t.isLt) h) (ix2 j e)
    = ((D.out (t.val * 128 + j.val) h e : ℝ) : EReal) := by
  have ho := is_headO (at_w fit t h) (at_r fit t h) (at_k fit t h) (at_a fit t h) (at_b fit t h) (at_v fit t h) (is_stAt fit h t.val t.isLt)
  have e1 : run (blkAt D t h).tok (run (D.tok h) (D.init h) (t.val * 128)) j.val = run (D.tok h) (D.init h) (t.val * 128 + j.val) := by
    rw [run_congr _ j.val (fun i hi => tok_eq D t h i (lt_trans hi j.isLt)), ← run_ktok, ← run_ktok, ← run_add]
  refine (ho j e).trans (congrArg (fun z : ℝ => (z : EReal)) ?_)
  show outp ((blkAt D t h).tok j.val) (run (blkAt D t h).tok (run (D.tok h) (D.init h) (t.val * 128)) j.val) e = _
  rw [e1, tok_eq D t h j.val j.isLt]
  exact congrFun (outp_ktok D h _ _) e

end

end Cert.KernelIdeal.Gen

end
-- ==== Proof.KFinal.lean ====
module

public import Idealize.ShloMosaic.Lib.Pipeline.ValueKit.Geometry
public import proofs.«01_k».proof.Proof.KVal

/-! # The kernel's two result arrays

Each point's outputs are written back to their rows, the states after the last point; the host's last
operations only rearrange them. -/

@[expose] public section

set_option synthInstance.maxSize 4096
set_option maxRecDepth 16384

noncomputable section

namespace Cert.KernelIdeal.Gen

open Idealize.ShloMosaic Idealize.ShloMosaic.TcCoe Idealize.SL.Sem
open Cert.Recur

variable {m : (ℓ : Loc nD τ sig) → Buf (Elt Ideal) ℓ} {D : Data} {c : Dev nD}

theorem index12 : ∀ t : Fin cfg0.N, win0_12.index t = ![t.val, 0] := (by decide +kernel : ∀ t : Fin grid0.N, _)
theorem index13 : ∀ t : Fin cfg0.N, win0_13.index t = ![0, 0, 0] := (by decide +kernel : ∀ t : Fin grid0.N, _)

/-- The outputs by row and column. -/
def outG (D : Data) : Vec Ideal S1792x5120 .bf16 := fun i =>
  ((D.out (i 0).val ⟨(i 1).val / 128, by have : (i 1).val < 5120 := (i 1).isLt; omega⟩ ⟨(i 1).val % 128, by omega⟩ : ℝ) : EReal)
/-- The last states by head, channel and value. -/
def stG (D : Data) : Vec Ideal S40x64x128 .f32 := fun i => ((run (D.tok (i 0)) (D.init (i 0)) 1792 (i 1) (i 2) : ℝ) : EReal)

theorem final_out (fit : FitsAt m D c) : (dats m 0 c).arrAt 12 cfg0.N = outG D := by
  refine (dats m 0 c).arrAt_eq_of_covers 12 _ (by decide +kernel) fun t hf y => ?_
  blk_simp
  rw [after0_12]
  refine (blkO_at fit t (colHead y) (y 0) (colChan y)).trans ?_
  unfold outG colHead colChan
  have e0 : (((win0_12.blk t).view.emb y) 0).val = t.val * 128 + (y 0).val := by blk_simp [index12]
  have e1 : (((win0_12.blk t).view.emb y) 1).val = (y 1).val := by blk_simp [index12]
  simp only [e0, e1]

theorem final_st (fit : FitsAt m D c) : (dats m 0 c).arrAt 13 cfg0.N = stG D := by
  refine (dats m 0 c).arrAt_eq_of_covers 13 _ (by decide +kernel) fun t hf y => ?_
  have hN : t.val < 14 := lt_of_lt_of_eq t.isLt (show cfg0.N = 14 from N_0)
  have ht : t.val = 13 := by have := (flush0_13 t).mp hf; omega
  blk_simp
  rw [after0_13]
  have ey : (win0_13.blk t).view.emb y = y := by blk_ext [index13]
  rw [ey]
  refine (congrArg _ (eq_ix3 y)).trans ((stNew_at fit t (y 0) (y 1) (y 2)).trans ?_)
  unfold stG
  rw [ht]

theorem row_out : (broadcastInDim S1x1792x5120 ![1, 2] bcast_S1792x5120_S1x1792x5120_1_2 (outG D) : Vec Ideal S1x1792x5120 .bf16) = D.outArr := by
  funext i
  rw [eq_ix3 i]
  simp only [pointwise]
  rfl

theorem row_st : (broadcastInDim S1x40x128x64 ![1, 2, 3] bcast_S40x128x64_S1x40x128x64_1_2_3
    (transpose S40x128x64 [0, 2, 1] (stG D) transposes_S40x64x128_S40x128x64_0_2_1 : Vec Ideal S40x128x64 .f32) : Vec Ideal S1x40x128x64 .f32) = D.stArr := by
  funext i
  rw [eq_ix4 i]
  simp only [pointwise]
  rfl

/-- Every execution of the kernel's program ends with the recurrence's outputs and last states in its two results. -/
theorem run_values (ρ : Dev nD → PrngReg) (D : Dev nD → Data) (fit : ∀ c, FitsAt m (D c) c) :
    θ_run defs (onTc (τ := τ) (main (F := Ideal))) ⟨m, fun _ => 0, ρ⟩ (fun r => ∀ c : Dev nD,
      r.2.mem ((c.tc : Thread nD τ).loc main_v29) = (D c).outArr
      ∧ r.2.mem ((c.tc : Thread nD τ).loc main_v31) = (D c).stArr) := by
  refine (θ_run defs _ _).mono (fun r hr c => ?_) (run_main m ρ)
  have h12 : Pipeline.withArrays (cfgs 0).spec c (V0 m c) (fun w => (dats m 0 c).arrAt w (cfgs 0).N) (Proc.devRef .tc main_v28_0) = outG (D c) :=
    (Pipeline.withArrays_arr (cfgs 0).spec launch0.win.arr_inj c (V0 m c) (fun w => (dats m 0 c).arrAt w (cfgs 0).N) 12).trans (final_out (fit c))
  have h13 : Pipeline.withArrays (cfgs 0).spec c (V0 m c) (fun w => (dats m 0 c).arrAt w (cfgs 0).N) (Proc.devRef .tc main_v28_1) = stG (D c) :=
    (Pipeline.withArrays_arr (cfgs 0).spec launch0.win.arr_inj c (V0 m c) (fun w => (dats m 0 c).arrAt w (cfgs 0).N) 13).trans (final_st (fit c))
  constructor
  · refine ((hr c).2 main_v29 (by decide)).trans ?_
    unfold Pipeline.afterTail₀
    simp only [hostOps1, List.flatten_cons, List.flatten_nil, List.append_nil, StableHlo.after_cons, StableHlo.after_nil]
    after_results_loop
    rw [h12]
    exact row_out
  · refine ((hr c).2 main_v31 (by decide)).trans ?_
    unfold Pipeline.afterTail₀
    simp only [hostOps1, List.flatten_cons, List.flatten_nil, List.append_nil, StableHlo.after_cons, StableHlo.after_nil]
    after_results_loop
    rw [h13]
    exact row_st

end Cert.KernelIdeal.Gen

end
-- ==== Proof.RPay.lean ====
module

public import Idealize.ShloMosaic.Lib.Claim
public import Idealize.ShloMosaic.Lib.Pointwise
public import proofs.«01_k».proof.Proof.Gen.ReferenceIdeal.Skeleton

/-! # The reference's arithmetic, element by element -/

@[expose] public section

set_option synthInstance.maxSize 4096
set_option maxRecDepth 16384

noncomputable section

namespace Cert.ReferenceIdeal.Gen

open Idealize.ShloMosaic Idealize.ShloMosaic.TcCoe Idealize.SL.Sem

theorem pay5_at (x : Vec Ideal S1x1x40x64 .fp8e4m3) (y : Vec Ideal S1x1x40 .f32) (h : Fin 40) (d : Fin 64) :
    k0_pay5 x y (ix2 h d) = (x (ix4 0 0 h d) * y (ix3 0 0 h) : EReal) := by
  unfold k0_pay5
  simp only [pointwise, Nat.reduceEqDiff, OfNat.ofNat_ne_one, reduceDIte]
theorem pay6_at (x : Vec Ideal S1x1x40x64 .fp8e4m3) (y : Vec Ideal S1x1x40 .f32) (h : Fin 40) (d : Fin 64) :
    k0_pay6 x y (ix2 h d) = (x (ix4 0 0 h d) * y (ix3 0 0 h) : EReal) := by
  unfold k0_pay6
  simp only [pointwise, Nat.reduceEqDiff, OfNat.ofNat_ne_one, reduceDIte]
theorem pay7_at (x : Vec Ideal S1x1x40x128 .fp8e4m3) (y : Vec Ideal S1x1x40 .f32) (h : Fin 40) (e : Fin 128) :
    k0_pay7 x y (ix2 h e) = (x (ix4 0 0 h e) * y (ix3 0 0 h) : EReal) := by
  unfold k0_pay7
  simp only [pointwise, Nat.reduceEqDiff, OfNat.ofNat_ne_one, reduceDIte]
theorem pay8_at (x : Vec Ideal S1x1x40x64 .fp8e4m3) (h : Fin 40) (d : Fin 64) :
    k0_pay8 x (ix2 h d) = (x (ix4 0 0 h d) : EReal) := by
  unfold k0_pay8
  simp only [pointwise, Nat.reduceEqDiff, OfNat.ofNat_ne_one, reduceDIte]
theorem pay9_at (y : Vec Ideal S1x1x40 .f32) (h : Fin 40) (d : Fin 64) : k0_pay9 y (ix2 h d) = (y (ix3 0 0 h) : EReal) := by
  unfold k0_pay9
  simp only [pointwise, Nat.reduceEqDiff, OfNat.ofNat_ne_one, reduceDIte]
theorem pay1_at (x : Vec Ideal S1x40x128x64 .f32) (h : Fin 40) (e : Fin 128) (d : Fin 64) :
    k0_pay1 x (ix3 h e d) = (x (ix4 0 h e d) : EReal) := by
  unfold k0_pay1
  simp only [pointwise, Nat.reduceEqDiff, OfNat.ofNat_ne_one, reduceDIte]
theorem pay4_at (x : FVec Ideal S40x128x64 .f32) (h : Fin 40) (e : Fin 128) (d : Fin 64) :
    k0_pay4 x (ix4 0 h e d) = (x (ix3 h e d) : EReal) := by
  unfold k0_pay4
  simp only [pointwise, Nat.reduceEqDiff, OfNat.ofNat_ne_one, reduceDIte]
theorem pay2_at (acc : FVec Ideal S40x128x64 .f32) (v26 : FVec Ideal S40x64 .f32) (v36 : FVec Ideal S40x128 .f32) (v40 v45 : FVec Ideal S40x64 .f32)
    (v48 : Vec Ideal S1x1x40x64 .fp8e4m3) (v52 : Vec Ideal S1x1x40 .f32) (v62 : Vec Ideal S1x1x40x64 .f32) (h : Fin 40) (e : Fin 128) (d : Fin 64) :
    k0_pay2 acc v26 v36 v40 v45 v48 v52 v62 (ix3 h e d) =
      (acc (ix3 h e d) * Ideal.exp (v62 (ix4 0 0 h d)) + (∑ d' : Fin 64, acc (ix3 h e d') * (v40 (ix2 h d') * v45 (ix2 h d'))) * (v48 (ix4 0 0 h d) * v52 (ix3 0 0 h))
        + v36 (ix2 h e) * v26 (ix2 h d) : EReal) := by
  unfold k0_pay2
  simp only [pointwise, Nat.reduceEqDiff, OfNat.ofNat_ne_one, reduceDIte]
theorem pay3_at (acc : FVec Ideal S40x128x64 .f32) (v16 v26 : FVec Ideal S40x64 .f32) (v36 : FVec Ideal S40x128 .f32) (v40 v45 : FVec Ideal S40x64 .f32)
    (v48 : Vec Ideal S1x1x40x64 .fp8e4m3) (v52 : Vec Ideal S1x1x40 .f32) (v62 : Vec Ideal S1x1x40x64 .f32) (h : Fin 40) (e : Fin 128) :
    k0_pay3 acc v16 v26 v36 v40 v45 v48 v52 v62 (ix4 0 0 h e) =
      (∑ d : Fin 64, k0_pay2 acc v26 v36 v40 v45 v48 v52 v62 (ix3 h e d) * v16 (ix2 h d) : EReal) := by
  unfold k0_pay3
  simp only [pointwise, Nat.reduceEqDiff, OfNat.ofNat_ne_one, reduceDIte]

end Cert.ReferenceIdeal.Gen

end
-- ==== Proof.RTrip.lean ====
module

public import Idealize.ShloMosaic.Lib.Pointwise
public import proofs.«01_k».proof.Proof.Gen.ReferenceIdeal.Frame

/-! # One token of the reference

What a trip of the reference's loop yields and writes, from the rows it reads. -/

@[expose] public section

set_option synthInstance.maxSize 4096
set_option maxRecDepth 16384

noncomputable section

namespace Cert.ReferenceIdeal.Gen

open Idealize.ShloMosaic Idealize.ShloMosaic.TcCoe Idealize.SL.Sem

variable {F : FTy → Type} [FloatOps F]

/-- Token `k`'s row of channels. -/
def row64 {e : EltTy} (M : Memref sig .tc .vmem S1x1792x40x64 e) (X : BufTy.Contents (Elt F) M.view.ty)
    (k : Fin k0_t1_loop.trips) : Vec F S1x1x40x64 e :=
  M.view.readAt (Elt F) (Rect.unit (s := S1x1792x40x64) (k0_off1 k) S1x1x40x64.size (k0_off1_inb k)).toLoadRect X
/-- Token `k`'s row of values. -/
def row128 {e : EltTy} (M : Memref sig .tc .vmem S1x1792x40x128 e) (X : BufTy.Contents (Elt F) M.view.ty)
    (k : Fin k0_t1_loop.trips) : Vec F S1x1x40x128 e :=
  M.view.readAt (Elt F) (Rect.unit (s := S1x1792x40x128) (k0_off3 k) S1x1x40x128.size (k0_off3_inb k)).toLoadRect X
/-- Token `k`'s row of scales. -/
def rowS (M : Memref sig .tc .vmem S1x1792x40 .f32) (X : BufTy.Contents (Elt F) M.view.ty)
    (k : Fin k0_t1_loop.trips) : Vec F S1x1x40 .f32 :=
  M.view.readAt (Elt F) (Rect.unit (s := S1x1792x40) (k0_off2 k) S1x1x40.size (k0_off2_inb k)).toLoadRect X

section
variable (𝒱 : Variants) (c : Dev nD) (bd : Option 𝒱.V) (arg0 : Memref sig .tc .vmem S1x1792x40x64 .fp8e4m3) (harg0 : arg0.IsWhole) (arg1 : Memref sig .tc .vmem S1x1792x40 .f32) (harg1 : arg1.IsWhole) (arg2 : Memref sig .tc .vmem S1x1792x40x64 .fp8e4m3) (harg2 : arg2.IsWhole) (arg3 : Memref sig .tc .vmem S1x1792x40 .f32) (harg3 : arg3.IsWhole) (arg4 : Memref sig .tc .vmem S1x1792x40x128 .fp8e4m3) (harg4 : arg4.IsWhole) (arg5 : Memref sig .tc .vmem S1x1792x40 .f32) (harg5 : arg5.IsWhole) (arg6 : Memref sig .tc .vmem S1x1792x40x64 .fp8e4m3) (harg6 : arg6.IsWhole) (arg7 : Memref sig .tc .vmem S1x1792x40 .f32) (harg7 : arg7.IsWhole) (arg8 : Memref sig .tc .vmem S1x1792x40x64 .fp8e4m3) (harg8 : arg8.IsWhole) (arg9 : Memref sig .tc .vmem S1x1792x40 .f32) (harg9 : arg9.IsWhole) (arg10 : Memref sig .tc .vmem S1x1792x40x64 .f32) (harg10 : arg10.IsWhole) (arg11 : Memref sig .tc .vmem S1x40x128x64 .f32) (harg11 : arg11.IsWhole) (arg12 : Memref sig .tc .vmem S1x1792x40x128 .bf16) (harg12 : arg12.IsWhole) (arg13 : Memref sig .tc .vmem S1x40x128x64 .f32) (harg13 : arg13.IsWhole) (X_arg0 : BufTy.Contents (Elt F) arg0.view.ty) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty)

/-- The state a trip yields. -/
theorem tripR_eq (k : Fin k0_t1_loop.trips) (acc : FVec F S40x128x64 .f32) : tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X_arg0 X_arg1 X_arg2 X_arg3 X_arg4 X_arg5 X_arg6 X_arg7 X_arg8 X_arg9 X_arg10 k acc =
    k0_pay2 acc (k0_pay6 (row64 arg2 X_arg2 k) (rowS arg3 X_arg3 k)) (k0_pay7 (row128 arg4 X_arg4 k) (rowS arg5 X_arg5 k))
      (k0_pay8 (row64 arg6 X_arg6 k)) (k0_pay9 (rowS arg7 X_arg7 k)) (row64 arg8 X_arg8 k) (rowS arg9 X_arg9 k) (row64 arg10 X_arg10 k) := by
  unfold tripR_k0_t1 trip_k0_t1
  rfl

/-- The outputs a trip writes. -/
theorem tripL_eq (k : Fin k0_t1_loop.trips) (acc : FVec F S40x128x64 .f32) : tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X_arg0 X_arg1 X_arg2 X_arg3 X_arg4 X_arg5 X_arg6 X_arg7 X_arg8 X_arg9 X_arg10 k acc =
    [⟨Rect.unit (s := S1x1792x40x128) (k0_off3 k) S1x1x40x128.size (k0_off3_inb k),
      k0_pay3 acc (k0_pay5 (row64 arg0 X_arg0 k) (rowS arg1 X_arg1 k)) (k0_pay6 (row64 arg2 X_arg2 k) (rowS arg3 X_arg3 k))
      (k0_pay7 (row128 arg4 X_arg4 k) (rowS arg5 X_arg5 k))
      (k0_pay8 (row64 arg6 X_arg6 k)) (k0_pay9 (rowS arg7 X_arg7 k)) (row64 arg8 X_arg8 k) (rowS arg9 X_arg9 k) (row64 arg10 X_arg10 k)⟩] := by
  unfold tripL_k0_t1 trip_k0_t1
  rfl
end

section
variable (c : Dev nD) (arg0 : Memref sig .tc .vmem S1x1792x40x64 .fp8e4m3) (harg0 : arg0.IsWhole) (arg1 : Memref sig .tc .vmem S1x1792x40 .f32) (harg1 : arg1.IsWhole) (arg2 : Memref sig .tc .vmem S1x1792x40x64 .fp8e4m3) (harg2 : arg2.IsWhole) (arg3 : Memref sig .tc .vmem S1x1792x40 .f32) (harg3 : arg3.IsWhole) (arg4 : Memref sig .tc .vmem S1x1792x40x128 .fp8e4m3) (harg4 : arg4.IsWhole) (arg5 : Memref sig .tc .vmem S1x1792x40 .f32) (harg5 : arg5.IsWhole) (arg6 : Memref sig .tc .vmem S1x1792x40x64 .fp8e4m3) (harg6 : arg6.IsWhole) (arg7 : Memref sig .tc .vmem S1x1792x40 .f32) (harg7 : arg7.IsWhole) (arg8 : Memref sig .tc .vmem S1x1792x40x64 .fp8e4m3) (harg8 : arg8.IsWhole) (arg9 : Memref sig .tc .vmem S1x1792x40 .f32) (harg9 : arg9.IsWhole) (arg10 : Memref sig .tc .vmem S1x1792x40x64 .f32) (harg10 : arg10.IsWhole) (arg11 : Memref sig .tc .vmem S1x40x128x64 .f32) (harg11 : arg11.IsWhole) (arg12 : Memref sig .tc .vmem S1x1792x40x128 .bf16) (harg12 : arg12.IsWhole) (arg13 : Memref sig .tc .vmem S1x40x128x64 .f32) (harg13 : arg13.IsWhole)
  (x0 : Vec F S1x1792x40x64 .fp8e4m3) (x1 : Vec F S1x1792x40 .f32) (x2 : Vec F S1x1792x40x64 .fp8e4m3) (x3 : Vec F S1x1792x40 .f32) (x4 : Vec F S1x1792x40x128 .fp8e4m3) (x5 : Vec F S1x1792x40 .f32) (x6 : Vec F S1x1792x40x64 .fp8e4m3) (x7 : Vec F S1x1792x40 .f32) (x8 : Vec F S1x1792x40x64 .fp8e4m3) (x9 : Vec F S1x1792x40 .f32) (x10 : Vec F S1x1792x40x64 .f32) (x11 : Vec F S1x40x128x64 .f32)

/-- The state after `n` tokens and the outputs written by then. -/
def stR (n : ℕ) : FVec F S40x128x64 .f32 × List (View.Piece (Elt F) S1x1792x40x128 .bf16) :=
  st_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 (harg0.unread x0) (harg1.unread x1) (harg2.unread x2) (harg3.unread x3) (harg4.unread x4) (harg5.unread x5) (harg6.unread x6) (harg7.unread x7) (harg8.unread x8) (harg9.unread x9) (harg10.unread x10) (k0_pay1 (arg11.view.readAt (Elt F) (Rect.unit (s := S1x40x128x64) ![0, 0, 0, 0] S1x40x128x64.size inb_S1x40x128x64_S1x40x128x64_0_0_0_0).toLoadRect (harg11.unread x11))) n

/-- The body writes what the loop writes … -/
theorem runO_eq : (kernelRun0_A (F := F) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).1 = (stR c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 k0_t1_loop.trips).2 := by
  unfold kernelRun0_A stR
  rfl

/-- … and the loop's last state. -/
theorem runS_eq : (kernelRun0_A (F := F) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).2.1 =
    [⟨Rect.unit (s := S1x40x128x64) ![0, 0, 0, 0] S1x40x128x64.size inb_S1x40x128x64_S1x40x128x64_0_0_0_0, k0_pay4 (stR c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 k0_t1_loop.trips).1⟩] := by
  unfold kernelRun0_A stR
  rfl
end

end Cert.ReferenceIdeal.Gen

end
-- ==== Proof.RVal.lean ====
module

public import Idealize.ShloMosaic.Lib.Claim
public import Idealize.ShloMosaic.Lib.Pointwise
public import Idealize.ShloMosaic.Lib.VecWindow
public import proofs.«01_k».proof.Proof.RPay
public import proofs.«01_k».proof.Proof.RTrip
public import proofs.«01_k».proof.Proof.Lift
public import proofs.«01_k».proof.Proof.Model

/-! # The reference's loop is the recurrence

After `n` trips the carried state is the recurrence's after `n` tokens, and the rows written are its outputs. -/

@[expose] public section

set_option synthInstance.maxSize 4096
set_option maxRecDepth 16384

noncomputable section

namespace Cert.ReferenceIdeal.Gen

open Idealize.ShloMosaic Idealize.ShloMosaic.TcCoe Idealize.SL.Sem
open Cert.Recur

theorem trips_eq : k0_t1_loop.trips = 1792 := by decide +kernel
theorem off1_eq : ∀ k : Fin k0_t1_loop.trips, k0_off1 k = ![0, k.val, 0, 0] := by decide +kernel
theorem off2_eq : ∀ k : Fin k0_t1_loop.trips, k0_off2 k = ![0, k.val, 0] := by decide +kernel
theorem off3_eq : ∀ k : Fin k0_t1_loop.trips, k0_off3 k = ![0, k.val, 0, 0] := by decide +kernel

/-- A trip's token. -/
def tk (k : Fin k0_t1_loop.trips) : Fin 1792 := ⟨k.val, lt_of_lt_of_eq k.isLt trips_eq⟩

theorem row64_at {e : EltTy} (M : Memref sig .tc .vmem S1x1792x40x64 e) (hM : M.IsWhole) (x : Vec Ideal S1x1792x40x64 e)
    (k : Fin k0_t1_loop.trips) (h : Fin 40) (d : Fin 64) : row64 (F := Ideal) M (hM.unread x) k (ix4 0 0 h d) = x (ix4 0 (tk k) h d) := by
  unfold row64
  refine ((congrFun (M.view.readAt_unit (hM.unread x) (k0_off1_inb k) (off1_eq k) (by rw [← off1_eq k]; exact k0_off1_inb k)) (ix4 0 0 h d)).trans ?_)
  rw [hM.read_unread]
  refine congrArg x (funext fun a => ?_)
  fin_cases a <;> exact Fin.ext (by simp [tk, VecWindow.window])

theorem row128_at {e : EltTy} (M : Memref sig .tc .vmem S1x1792x40x128 e) (hM : M.IsWhole) (x : Vec Ideal S1x1792x40x128 e)
    (k : Fin k0_t1_loop.trips) (h : Fin 40) (d : Fin 128) : row128 (F := Ideal) M (hM.unread x) k (ix4 0 0 h d) = x (ix4 0 (tk k) h d) := by
  unfold row128
  refine ((congrFun (M.view.readAt_unit (hM.unread x) (k0_off3_inb k) (off3_eq k) (by rw [← off3_eq k]; exact k0_off3_inb k)) (ix4 0 0 h d)).trans ?_)
  rw [hM.read_unread]
  refine congrArg x (funext fun a => ?_)
  fin_cases a <;> exact Fin.ext (by simp [tk, VecWindow.window])

theorem rowS_at (M : Memref sig .tc .vmem S1x1792x40 .f32) (hM : M.IsWhole) (x : Vec Ideal S1x1792x40 .f32)
    (k : Fin k0_t1_loop.trips) (h : Fin 40) : rowS (F := Ideal) M (hM.unread x) k (ix3 0 0 h) = x (ix3 0 (tk k) h) := by
  unfold rowS
  refine ((congrFun (M.view.readAt_unit (hM.unread x) (k0_off2_inb k) (off2_eq k) (by rw [← off2_eq k]; exact k0_off2_inb k)) (ix3 0 0 h)).trans ?_)
  rw [hM.read_unread]
  refine congrArg x (funext fun a => ?_)
  fin_cases a <;> exact Fin.ext (by simp [tk, VecWindow.window])

/-- The blocks the reference reads hold these numbers. -/
structure Reads (D : Data) (x0 : Vec Ideal S1x1792x40x64 .fp8e4m3) (x1 : Vec Ideal S1x1792x40 .f32) (x2 : Vec Ideal S1x1792x40x64 .fp8e4m3) (x3 : Vec Ideal S1x1792x40 .f32) (x4 : Vec Ideal S1x1792x40x128 .fp8e4m3) (x5 : Vec Ideal S1x1792x40 .f32) (x6 : Vec Ideal S1x1792x40x64 .fp8e4m3) (x7 : Vec Ideal S1x1792x40 .f32) (x8 : Vec Ideal S1x1792x40x64 .fp8e4m3) (x9 : Vec Ideal S1x1792x40 .f32) (x10 : Vec Ideal S1x1792x40x64 .f32) (x11 : Vec Ideal S1x40x128x64 .f32) : Prop where
  r : ∀ n h d, x0 (ix4 0 n h d) = ((D.rc n h d : ℝ) : EReal)
  sr : ∀ n h, x1 (ix3 0 n h) = ((D.rq n h : ℝ) : EReal)
  k : ∀ n h d, x2 (ix4 0 n h d) = ((D.kc n h d : ℝ) : EReal)
  sk : ∀ n h, x3 (ix3 0 n h) = ((D.kq n h : ℝ) : EReal)
  v : ∀ n h e, x4 (ix4 0 n h e) = ((D.vc n h e : ℝ) : EReal)
  sv : ∀ n h, x5 (ix3 0 n h) = ((D.vq n h : ℝ) : EReal)
  a : ∀ n h d, x6 (ix4 0 n h d) = ((D.ac n h d : ℝ) : EReal)
  sa : ∀ n h, x7 (ix3 0 n h) = ((D.aq n h : ℝ) : EReal)
  b : ∀ n h d, x8 (ix4 0 n h d) = ((D.bc n h d : ℝ) : EReal)
  sb : ∀ n h, x9 (ix3 0 n h) = ((D.bq n h : ℝ) : EReal)
  w : ∀ n h d, x10 (ix4 0 n h d) = ((D.w n h d : ℝ) : EReal)
  s : ∀ h e d, x11 (ix4 0 h e d) = ((D.s0 h e d : ℝ) : EReal)

section
variable (c : Dev nD) (arg0 : Memref sig .tc .vmem S1x1792x40x64 .fp8e4m3) (harg0 : arg0.IsWhole) (arg1 : Memref sig .tc .vmem S1x1792x40 .f32) (harg1 : arg1.IsWhole) (arg2 : Memref sig .tc .vmem S1x1792x40x64 .fp8e4m3) (harg2 : arg2.IsWhole) (arg3 : Memref sig .tc .vmem S1x1792x40 .f32) (harg3 : arg3.IsWhole) (arg4 : Memref sig .tc .vmem S1x1792x40x128 .fp8e4m3) (harg4 : arg4.IsWhole) (arg5 : Memref sig .tc .vmem S1x1792x40 .f32) (harg5 : arg5.IsWhole) (arg6 : Memref sig .tc .vmem S1x1792x40x64 .fp8e4m3) (harg6 : arg6.IsWhole) (arg7 : Memref sig .tc .vmem S1x1792x40 .f32) (harg7 : arg7.IsWhole) (arg8 : Memref sig .tc .vmem S1x1792x40x64 .fp8e4m3) (harg8 : arg8.IsWhole) (arg9 : Memref sig .tc .vmem S1x1792x40 .f32) (harg9 : arg9.IsWhole) (arg10 : Memref sig .tc .vmem S1x1792x40x64 .f32) (harg10 : arg10.IsWhole) (arg11 : Memref sig .tc .vmem S1x40x128x64 .f32) (harg11 : arg11.IsWhole) (arg12 : Memref sig .tc .vmem S1x1792x40x128 .bf16) (harg12 : arg12.IsWhole) (arg13 : Memref sig .tc .vmem S1x40x128x64 .f32) (harg13 : arg13.IsWhole)
  (x0 : Vec Ideal S1x1792x40x64 .fp8e4m3) (x1 : Vec Ideal S1x1792x40 .f32) (x2 : Vec Ideal S1x1792x40x64 .fp8e4m3) (x3 : Vec Ideal S1x1792x40 .f32) (x4 : Vec Ideal S1x1792x40x128 .fp8e4m3) (x5 : Vec Ideal S1x1792x40 .f32) (x6 : Vec Ideal S1x1792x40x64 .fp8e4m3) (x7 : Vec Ideal S1x1792x40 .f32) (x8 : Vec Ideal S1x1792x40x64 .fp8e4m3) (x9 : Vec Ideal S1x1792x40 .f32) (x10 : Vec Ideal S1x1792x40x64 .f32) (x11 : Vec Ideal S1x40x128x64 .f32) (D : Data)
include c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 D

/-- One trip's step … -/
theorem step_at (rd : Reads D x0 x1 x2 x3 x4 x5 x6 x7 x8 x9 x10 x11) (k : Fin k0_t1_loop.trips) (acc : FVec Ideal S40x128x64 .f32) (S : Fin 40 → Fin 64 → Fin 128 → ℝ)
    (hS : ∀ h e d, acc (ix3 h e d) = ((S h d e : ℝ) : EReal)) (h : Fin 40) (e : Fin 128) (d : Fin 64) :
    k0_pay2 acc (k0_pay6 (row64 arg2 (harg2.unread x2) k) (rowS arg3 (harg3.unread x3) k)) (k0_pay7 (row128 arg4 (harg4.unread x4) k) (rowS arg5 (harg5.unread x5) k))
      (k0_pay8 (row64 arg6 (harg6.unread x6) k)) (k0_pay9 (rowS arg7 (harg7.unread x7) k)) (row64 arg8 (harg8.unread x8) k) (rowS arg9 (harg9.unread x9) k) (row64 arg10 (harg10.unread x10) k) (ix3 h e d) = ((step (D.tok h k.val) (S h) d e : ℝ) : EReal) := by
  have hno : no k.val = tk k := no_val (tk k)
  have e0 (h d) := row64_at arg0 harg0 x0 k h d
  have e1 (h) := rowS_at arg1 harg1 x1 k h
  have e2 (h d) := row64_at arg2 harg2 x2 k h d
  have e3 (h) := rowS_at arg3 harg3 x3 k h
  have e4 (h d) := row128_at arg4 harg4 x4 k h d
  have e5 (h) := rowS_at arg5 harg5 x5 k h
  have e6 (h d) := row64_at arg6 harg6 x6 k h d
  have e7 (h) := rowS_at arg7 harg7 x7 k h
  have e8 (h d) := row64_at arg8 harg8 x8 k h d
  have e9 (h) := rowS_at arg9 harg9 x9 k h
  have e10 (h d) := row64_at arg10 harg10 x10 k h d
  rw [pay2_at]
  simp only [pay6_at, pay7_at, pay8_at, pay9_at, e2, e3, e4, e5, e6, e7, e8, e9, e10, rd.k, rd.sk, rd.v, rd.sv, rd.a, rd.sa, rd.b, rd.sb, rd.w, hS, Ideal.exp_coe,
    ← EReal.coe_mul, Cert.KernelIdeal.Gen.coe_sum, ← EReal.coe_add]
  refine congrArg _ ?_
  unfold step along Data.tok
  simp only [hno]

/-- … and its outputs. -/
theorem outp_at (rd : Reads D x0 x1 x2 x3 x4 x5 x6 x7 x8 x9 x10 x11) (k : Fin k0_t1_loop.trips) (acc : FVec Ideal S40x128x64 .f32) (S : Fin 40 → Fin 64 → Fin 128 → ℝ)
    (hS : ∀ h e d, acc (ix3 h e d) = ((S h d e : ℝ) : EReal)) (h : Fin 40) (e : Fin 128) :
    k0_pay3 acc (k0_pay5 (row64 arg0 (harg0.unread x0) k) (rowS arg1 (harg1.unread x1) k)) (k0_pay6 (row64 arg2 (harg2.unread x2) k) (rowS arg3 (harg3.unread x3) k)) (k0_pay7 (row128 arg4 (harg4.unread x4) k) (rowS arg5 (harg5.unread x5) k))
      (k0_pay8 (row64 arg6 (harg6.unread x6) k)) (k0_pay9 (rowS arg7 (harg7.unread x7) k)) (row64 arg8 (harg8.unread x8) k) (rowS arg9 (harg9.unread x9) k) (row64 arg10 (harg10.unread x10) k) (ix4 0 0 h e) = ((outp (D.tok h k.val) (S h) e : ℝ) : EReal) := by
  have hno : no k.val = tk k := no_val (tk k)
  rw [pay3_at]
  have e0 (h d) := row64_at arg0 harg0 x0 k h d
  have e1 (h) := rowS_at arg1 harg1 x1 k h
  simp only [step_at c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 D rd k acc S hS, pay5_at, e0, e1, rd.r, rd.sr, ← EReal.coe_mul, Cert.KernelIdeal.Gen.coe_sum]
  refine congrArg _ ?_
  unfold outp Data.tok
  simp only [hno]

theorem stR_succ (k : Fin k0_t1_loop.trips) : stR (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (k.val + 1) =
    (k0_pay2 (stR c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 k.val).1 (k0_pay6 (row64 arg2 (harg2.unread x2) k) (rowS arg3 (harg3.unread x3) k)) (k0_pay7 (row128 arg4 (harg4.unread x4) k) (rowS arg5 (harg5.unread x5) k))
      (k0_pay8 (row64 arg6 (harg6.unread x6) k)) (k0_pay9 (rowS arg7 (harg7.unread x7) k)) (row64 arg8 (harg8.unread x8) k) (rowS arg9 (harg9.unread x9) k) (row64 arg10 (harg10.unread x10) k),
     ⟨Rect.unit (s := S1x1792x40x128) (k0_off3 k) S1x1x40x128.size (k0_off3_inb k),
      k0_pay3 (stR c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 k.val).1 (k0_pay5 (row64 arg0 (harg0.unread x0) k) (rowS arg1 (harg1.unread x1) k)) (k0_pay6 (row64 arg2 (harg2.unread x2) k) (rowS arg3 (harg3.unread x3) k)) (k0_pay7 (row128 arg4 (harg4.unread x4) k) (rowS arg5 (harg5.unread x5) k))
      (k0_pay8 (row64 arg6 (harg6.unread x6) k)) (k0_pay9 (rowS arg7 (harg7.unread x7) k)) (row64 arg8 (harg8.unread x8) k) (rowS arg9 (harg9.unread x9) k) (row64 arg10 (harg10.unread x10) k)⟩ :: (stR c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 k.val).2) := by
  unfold stR
  rw [st_k0_t1_succ, tripR_eq, tripL_eq]
  rfl

theorem stR_zero (rd : Reads D x0 x1 x2 x3 x4 x5 x6 x7 x8 x9 x10 x11) (h : Fin 40) (e : Fin 128) (d : Fin 64) :
    (stR (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 0).1 (ix3 h e d) = ((D.init h d e : ℝ) : EReal) := by
  unfold stR
  rw [st_k0_t1_zero]
  refine (pay1_at _ h e d).trans ?_
  refine (congrFun (arg11.view.readAt_unit (harg11.unread x11) inb_S1x40x128x64_S1x40x128x64_0_0_0_0 rfl inb_S1x40x128x64_S1x40x128x64_0_0_0_0) (ix4 0 h e d)).trans ?_
  rw [harg11.read_unread]
  refine Eq.trans (congrArg x11 (funext fun a => ?_)) (rd.s h e d)
  fin_cases a <;> exact Fin.ext (by simp)

/-- The carried state. -/
theorem state_at (rd : Reads D x0 x1 x2 x3 x4 x5 x6 x7 x8 x9 x10 x11) (n : ℕ) (hn : n ≤ 1792) (h : Fin 40) (e : Fin 128) (d : Fin 64) :
    (stR (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 n).1 (ix3 h e d) = ((run (D.tok h) (D.init h) n d e : ℝ) : EReal) := by
  induction n generalizing h e d with
  | zero => exact stR_zero c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 D rd h e d
  | succ n ih =>
    rw [stR_succ c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 D ⟨n, by rw [trips_eq]; omega⟩]
    exact step_at c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 D rd ⟨n, by rw [trips_eq]; omega⟩ _ (fun h => run (D.tok h) (D.init h) n) (fun h e d => ih (by omega) h e d) h e d

/-- The rows written. -/
theorem rows_at (rd : Reads D x0 x1 x2 x3 x4 x5 x6 x7 x8 x9 x10 x11) (n : ℕ) (hn : n ≤ 1792) (p : Fin 1792) (hp : p.val < n) (h : Fin 40) (e : Fin 128) :
    View.canon (stR (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 n).2 (ix4 0 p h e) = ((D.out p.val h e : ℝ) : EReal) := by
  induction n with
  | zero => omega
  | succ n ih =>
    have hk : n < k0_t1_loop.trips := by rw [trips_eq]; omega
    rw [stR_succ c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 D ⟨n, hk⟩]
    have o1 : k0_off3 ⟨n, hk⟩ = ![0, n, 0, 0] := off3_eq ⟨n, hk⟩
    by_cases hpn : p.val = n
    · have ep : (ix4 0 p h e : S1x1792x40x128.Idx) = (Rect.unit (s := S1x1792x40x128) (k0_off3 ⟨n, hk⟩) S1x1x40x128.size (k0_off3_inb ⟨n, hk⟩)).emb (ix4 0 0 h e) := by
        funext a
        refine Fin.ext ?_
        have oa : k0_off3 ⟨n, hk⟩ a = (![0, n, 0, 0] : Fin 4 → ℕ) a := congrFun o1 a
        refine Eq.trans ?_ (congrArg (· + 1 * ((ix4 0 0 h e : S1x1x40x128.Idx) a).val) oa.symm)
        fin_cases a <;> simp [hpn]
      rw [ep, View.canon_cons_emb, hpn]
      exact outp_at c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 D rd ⟨n, hk⟩ _ (fun h => run (D.tok h) (D.init h) n) (fun h e d => state_at c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 D rd n (by omega) h e d) h e
    · rw [View.canon_cons_of_not_mem]
      · exact ih (by omega) (by omega)
      · intro hm
        obtain ⟨x, hx⟩ := (Rect.unit (s := S1x1792x40x128) (k0_off3 ⟨n, hk⟩) S1x1x40x128.size (k0_off3_inb ⟨n, hk⟩)).exists_idx_of_mem hm
        have h1 : k0_off3 ⟨n, hk⟩ 1 + 1 * (x 1).val = p.val := congrArg Fin.val (congrFun hx 1)
        have oa : k0_off3 ⟨n, hk⟩ 1 = n := congrFun o1 1
        have h2 : n + 1 * (x 1).val = p.val := (congrArg (· + 1 * (x 1).val) oa.symm).trans h1
        omega
end

end Cert.ReferenceIdeal.Gen

end
-- ==== Proof.RFinal.lean ====
module

public import Idealize.ShloMosaic.Lib.Claim
public import Idealize.ShloMosaic.Lib.Pointwise
public import Idealize.ShloMosaic.Lib.Pipeline.ValueKit.Geometry
public import proofs.«01_k».proof.Proof.RVal

/-! # What the reference's program computes

Its two results are the recurrence's outputs and its last states. -/

@[expose] public section

set_option synthInstance.maxSize 4096
set_option maxRecDepth 16384

noncomputable section

namespace Cert.ReferenceIdeal.Gen

open Idealize.ShloMosaic Idealize.ShloMosaic.TcCoe Idealize.SL.Sem
open Cert.Recur

variable (m : (ℓ : Loc nD τ sig) → Buf (Elt Ideal) ℓ)

theorem index0 : ∀ t : Fin cfg0.N, win0_0.index t = ![0, 0, 0, 0] := (by decide +kernel : ∀ t : Fin grid0.N, _)
theorem V_0 (c : Dev nD) : V m c main_v0 = (bitcastToFloat (F := Ideal) .fp8e4m3 (m ((c : Thread nD τ).loc main_arg0)) : Vec Ideal S1x1792x40x64 .fp8e4m3) := by
  unfold V V0
  simp only [hostOps0, List.flatten_cons, List.flatten_nil, List.append_nil, StableHlo.after_cons, StableHlo.after_nil]
  after_results_loop
  try rfl
theorem iblk_0 (c : Dev nD) (t : Fin cfg0.N) : iblk m c 0 t = (bitcastToFloat (F := Ideal) .fp8e4m3 (m ((c : Thread nD τ).loc main_arg0)) : Vec Ideal S1x1792x40x64 .fp8e4m3) := by
  refine Eq.trans (funext fun y => ?_) (V_0 m c)
  blk_simp [iblk, index0]
  refine congrArg (V m c main_v0) ?_
  blk_ext [index0]

theorem index1 : ∀ t : Fin cfg0.N, win0_1.index t = ![0, 0, 0] := (by decide +kernel : ∀ t : Fin grid0.N, _)
theorem V_1 (c : Dev nD) : V m c main_arg1 = m ((c : Thread nD τ).loc main_arg1) := by
  unfold V V0
  simp only [hostOps0, List.flatten_cons, List.flatten_nil, List.append_nil, StableHlo.after_cons, StableHlo.after_nil]
  after_results_loop
  try rfl
theorem iblk_1 (c : Dev nD) (t : Fin cfg0.N) : iblk m c 1 t = m ((c : Thread nD τ).loc main_arg1) := by
  refine Eq.trans (funext fun y => ?_) (V_1 m c)
  blk_simp [iblk, index1]
  refine congrArg (V m c main_arg1) ?_
  blk_ext [index1]

theorem index2 : ∀ t : Fin cfg0.N, win0_2.index t = ![0, 0, 0, 0] := (by decide +kernel : ∀ t : Fin grid0.N, _)
theorem V_2 (c : Dev nD) : V m c main_v1 = (bitcastToFloat (F := Ideal) .fp8e4m3 (m ((c : Thread nD τ).loc main_arg2)) : Vec Ideal S1x1792x40x64 .fp8e4m3) := by
  unfold V V0
  simp only [hostOps0, List.flatten_cons, List.flatten_nil, List.append_nil, StableHlo.after_cons, StableHlo.after_nil]
  after_results_loop
  try rfl
theorem iblk_2 (c : Dev nD) (t : Fin cfg0.N) : iblk m c 2 t = (bitcastToFloat (F := Ideal) .fp8e4m3 (m ((c : Thread nD τ).loc main_arg2)) : Vec Ideal S1x1792x40x64 .fp8e4m3) := by
  refine Eq.trans (funext fun y => ?_) (V_2 m c)
  blk_simp [iblk, index2]
  refine congrArg (V m c main_v1) ?_
  blk_ext [index2]

theorem index3 : ∀ t : Fin cfg0.N, win0_3.index t = ![0, 0, 0] := (by decide +kernel : ∀ t : Fin grid0.N, _)
theorem V_3 (c : Dev nD) : V m c main_arg3 = m ((c : Thread nD τ).loc main_arg3) := by
  unfold V V0
  simp only [hostOps0, List.flatten_cons, List.flatten_nil, List.append_nil, StableHlo.after_cons, StableHlo.after_nil]
  after_results_loop
  try rfl
theorem iblk_3 (c : Dev nD) (t : Fin cfg0.N) : iblk m c 3 t = m ((c : Thread nD τ).loc main_arg3) := by
  refine Eq.trans (funext fun y => ?_) (V_3 m c)
  blk_simp [iblk, index3]
  refine congrArg (V m c main_arg3) ?_
  blk_ext [index3]

theorem index4 : ∀ t : Fin cfg0.N, win0_4.index t = ![0, 0, 0, 0] := (by decide +kernel : ∀ t : Fin grid0.N, _)
theorem V_4 (c : Dev nD) : V m c main_v2 = (bitcastToFloat (F := Ideal) .fp8e4m3 (m ((c : Thread nD τ).loc main_arg4)) : Vec Ideal S1x1792x40x128 .fp8e4m3) := by
  unfold V V0
  simp only [hostOps0, List.flatten_cons, List.flatten_nil, List.append_nil, StableHlo.after_cons, StableHlo.after_nil]
  after_results_loop
  try rfl
theorem iblk_4 (c : Dev nD) (t : Fin cfg0.N) : iblk m c 4 t = (bitcastToFloat (F := Ideal) .fp8e4m3 (m ((c : Thread nD τ).loc main_arg4)) : Vec Ideal S1x1792x40x128 .fp8e4m3) := by
  refine Eq.trans (funext fun y => ?_) (V_4 m c)
  blk_simp [iblk, index4]
  refine congrArg (V m c main_v2) ?_
  blk_ext [index4]

theorem index5 : ∀ t : Fin cfg0.N, win0_5.index t = ![0, 0, 0] := (by decide +kernel : ∀ t : Fin grid0.N, _)
theorem V_5 (c : Dev nD) : V m c main_arg5 = m ((c : Thread nD τ).loc main_arg5) := by
  unfold V V0
  simp only [hostOps0, List.flatten_cons, List.flatten_nil, List.append_nil, StableHlo.after_cons, StableHlo.after_nil]
  after_results_loop
  try rfl
theorem iblk_5 (c : Dev nD) (t : Fin cfg0.N) : iblk m c 5 t = m ((c : Thread nD τ).loc main_arg5) := by
  refine Eq.trans (funext fun y => ?_) (V_5 m c)
  blk_simp [iblk, index5]
  refine congrArg (V m c main_arg5) ?_
  blk_ext [index5]

theorem index6 : ∀ t : Fin cfg0.N, win0_6.index t = ![0, 0, 0, 0] := (by decide +kernel : ∀ t : Fin grid0.N, _)
theorem V_6 (c : Dev nD) : V m c main_v3 = (bitcastToFloat (F := Ideal) .fp8e4m3 (m ((c : Thread nD τ).loc main_arg6)) : Vec Ideal S1x1792x40x64 .fp8e4m3) := by
  unfold V V0
  simp only [hostOps0, List.flatten_cons, List.flatten_nil, List.append_nil, StableHlo.after_cons, StableHlo.after_nil]
  after_results_loop
  try rfl
theorem iblk_6 (c : Dev nD) (t : Fin cfg0.N) : iblk m c 6 t = (bitcastToFloat (F := Ideal) .fp8e4m3 (m ((c : Thread nD τ).loc main_arg6)) : Vec Ideal S1x1792x40x64 .fp8e4m3) := by
  refine Eq.trans (funext fun y => ?_) (V_6 m c)
  blk_simp [iblk, index6]
  refine congrArg (V m c main_v3) ?_
  blk_ext [index6]

theorem index7 : ∀ t : Fin cfg0.N, win0_7.index t = ![0, 0, 0] := (by decide +kernel : ∀ t : Fin grid0.N, _)
theorem V_7 (c : Dev nD) : V m c main_arg7 = m ((c : Thread nD τ).loc main_arg7) := by
  unfold V V0
  simp only [hostOps0, List.flatten_cons, List.flatten_nil, List.append_nil, StableHlo.after_cons, StableHlo.after_nil]
  after_results_loop
  try rfl
theorem iblk_7 (c : Dev nD) (t : Fin cfg0.N) : iblk m c 7 t = m ((c : Thread nD τ).loc main_arg7) := by
  refine Eq.trans (funext fun y => ?_) (V_7 m c)
  blk_simp [iblk, index7]
  refine congrArg (V m c main_arg7) ?_
  blk_ext [index7]

theorem index8 : ∀ t : Fin cfg0.N, win0_8.index t = ![0, 0, 0, 0] := (by decide +kernel : ∀ t : Fin grid0.N, _)
theorem V_8 (c : Dev nD) : V m c main_v4 = (bitcastToFloat (F := Ideal) .fp8e4m3 (m ((c : Thread nD τ).loc main_arg8)) : Vec Ideal S1x1792x40x64 .fp8e4m3) := by
  unfold V V0
  simp only [hostOps0, List.flatten_cons, List.flatten_nil, List.append_nil, StableHlo.after_cons, StableHlo.after_nil]
  after_results_loop
  try rfl
theorem iblk_8 (c : Dev nD) (t : Fin cfg0.N) : iblk m c 8 t = (bitcastToFloat (F := Ideal) .fp8e4m3 (m ((c : Thread nD τ).loc main_arg8)) : Vec Ideal S1x1792x40x64 .fp8e4m3) := by
  refine Eq.trans (funext fun y => ?_) (V_8 m c)
  blk_simp [iblk, index8]
  refine congrArg (V m c main_v4) ?_
  blk_ext [index8]

theorem index9 : ∀ t : Fin cfg0.N, win0_9.index t = ![0, 0, 0] := (by decide +kernel : ∀ t : Fin grid0.N, _)
theorem V_9 (c : Dev nD) : V m c main_arg9 = m ((c : Thread nD τ).loc main_arg9) := by
  unfold V V0
  simp only [hostOps0, List.flatten_cons, List.flatten_nil, List.append_nil, StableHlo.after_cons, StableHlo.after_nil]
  after_results_loop
  try rfl
theorem iblk_9 (c : Dev nD) (t : Fin cfg0.N) : iblk m c 9 t = m ((c : Thread nD τ).loc main_arg9) := by
  refine Eq.trans (funext fun y => ?_) (V_9 m c)
  blk_simp [iblk, index9]
  refine congrArg (V m c main_arg9) ?_
  blk_ext [index9]

theorem index10 : ∀ t : Fin cfg0.N, win0_10.index t = ![0, 0, 0, 0] := (by decide +kernel : ∀ t : Fin grid0.N, _)
theorem V_10 (c : Dev nD) : V m c main_arg10 = m ((c : Thread nD τ).loc main_arg10) := by
  unfold V V0
  simp only [hostOps0, List.flatten_cons, List.flatten_nil, List.append_nil, StableHlo.after_cons, StableHlo.after_nil]
  after_results_loop
  try rfl
theorem iblk_10 (c : Dev nD) (t : Fin cfg0.N) : iblk m c 10 t = m ((c : Thread nD τ).loc main_arg10) := by
  refine Eq.trans (funext fun y => ?_) (V_10 m c)
  blk_simp [iblk, index10]
  refine congrArg (V m c main_arg10) ?_
  blk_ext [index10]

theorem index11 : ∀ t : Fin cfg0.N, win0_11.index t = ![0, 0, 0, 0] := (by decide +kernel : ∀ t : Fin grid0.N, _)
theorem V_11 (c : Dev nD) : V m c main_arg11 = m ((c : Thread nD τ).loc main_arg11) := by
  unfold V V0
  simp only [hostOps0, List.flatten_cons, List.flatten_nil, List.append_nil, StableHlo.after_cons, StableHlo.after_nil]
  after_results_loop
  try rfl
theorem iblk_11 (c : Dev nD) (t : Fin cfg0.N) : iblk m c 11 t = m ((c : Thread nD τ).loc main_arg11) := by
  refine Eq.trans (funext fun y => ?_) (V_11 m c)
  blk_simp [iblk, index11]
  refine congrArg (V m c main_arg11) ?_
  blk_ext [index11]

/-- The arguments hold these numbers. -/
abbrev FitsAt (D : Data) (c : Dev nD) : Prop := Fits D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

variable {m} {D : Data} {c : Dev nD}

theorem reads (fit : FitsAt m D c) (t : Fin cfg0.N) : Reads D (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  rw [iblk_0, iblk_1, iblk_2, iblk_3, iblk_4, iblk_5, iblk_6, iblk_7, iblk_8, iblk_9, iblk_10, iblk_11]
  exact ⟨fit.r, fit.sr, fit.k, fit.sk, fit.v, fit.sv, fit.a, fit.sa, fit.b, fit.sb, fit.w, fit.s⟩

theorem out_at (fit : FitsAt m D c) (t : Fin cfg0.N) (p : Fin 1792) (h : Fin 40) (e : Fin 128) :
    (outsAt0 m c t).1 (ix4 0 p h e) = ((D.out p.val h e : ℝ) : EReal) := by
  show out0_A_12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 0 p h e) = _
  unfold out0_A_12
  rw [View.read_writes_junk_eq_canon, runO_eq, trips_eq]
  exact rows_at c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) D (reads fit t) 1792 le_rfl p p.isLt h e

theorem st_at (fit : FitsAt m D c) (t : Fin cfg0.N) (h : Fin 40) (e : Fin 128) (d : Fin 64) :
    (outsAt0 m c t).2 (ix4 0 h e d) = ((run (D.tok h) (D.init h) 1792 d e : ℝ) : EReal) := by
  unfold outsAt0 out0_A_13
  dsimp only
  rw [View.read_writes_junk_eq_canon, runS_eq, trips_eq]
  have ep : (ix4 0 h e d : S1x40x128x64.Idx) = (Rect.unit (s := S1x40x128x64) ![0, 0, 0, 0] S1x40x128x64.size inb_S1x40x128x64_S1x40x128x64_0_0_0_0).emb (ix4 0 h e d) := by
    funext a
    fin_cases a <;> exact Fin.ext (by simp)
  rw [ep, View.canon_cons_emb]
  exact (pay4_at _ h e d).trans (state_at c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) D (reads fit t) 1792 le_rfl h e d)

theorem index12 : ∀ t : Fin cfg0.N, win0_12.index t = ![0, 0, 0, 0] := (by decide +kernel : ∀ t : Fin grid0.N, _)
theorem index13 : ∀ t : Fin cfg0.N, win0_13.index t = ![0, 0, 0, 0] := (by decide +kernel : ∀ t : Fin grid0.N, _)

/-- The outputs by token, head and value. -/
def outG (D : Data) : Vec Ideal S1x1792x40x128 .bf16 := fun i => ((D.out (i 1).val (i 2) (i 3) : ℝ) : EReal)

theorem final_out (fit : FitsAt m D c) : (dats m 0 c).arrAt 12 cfg0.N = outG D := by
  refine (dats m 0 c).arrAt_eq_of_covers 12 _ (by decide +kernel) fun t hf y => ?_
  blk_simp
  rw [after0_12]
  have ey : (win0_12.blk t).view.emb y = y := by blk_ext [index12]
  rw [ey]
  have h0 : y = ix4 0 (y 1) (y 2) (y 3) := (eq_ix4 y).trans (congrArg (fun z => ix4 z (y 1) (y 2) (y 3)) (Subsingleton.elim (α := Fin 1) _ _))
  exact (congrArg _ h0).trans (out_at fit t (y 1) (y 2) (y 3))

theorem final_st (fit : FitsAt m D c) : (dats m 0 c).arrAt 13 cfg0.N = D.stArr := by
  refine (dats m 0 c).arrAt_eq_of_covers 13 _ (by decide +kernel) fun t hf y => ?_
  blk_simp
  rw [after0_13]
  have ey : (win0_13.blk t).view.emb y = y := by blk_ext [index13]
  rw [ey]
  have h0 : y = ix4 0 (y 1) (y 2) (y 3) := (eq_ix4 y).trans (congrArg (fun z => ix4 z (y 1) (y 2) (y 3)) (Subsingleton.elim (α := Fin 1) _ _))
  exact (congrArg _ h0).trans (st_at fit t (y 1) (y 2) (y 3))

theorem row_out : (shapeCast S1x1792x5120 (outG D) shapeCasts_S1x1792x40x128_S1x1792x5120 : Vec Ideal S1x1792x5120 .bf16) = D.outArr := by
  funext i
  rw [eq_ix3 i]
  simp only [pointwise]
  rfl

/-- Every execution of the reference ends with the recurrence's outputs and last states in its two results. -/
theorem run_values (ρ : Dev nD → PrngReg) (D : Dev nD → Data) (fit : ∀ c, FitsAt m (D c) c) :
    θ_run defs (onTc (τ := τ) (main (F := Ideal))) ⟨m, fun _ => 0, ρ⟩ (fun r => ∀ c : Dev nD,
      r.2.mem ((c.tc : Thread nD τ).loc main_v6) = (D c).outArr
      ∧ r.2.mem ((c.tc : Thread nD τ).loc main_v5_1) = (D c).stArr) := by
  refine (θ_run defs _ _).mono (fun r hr c => ?_) (run_main m ρ)
  have h12 : Pipeline.withArrays (cfgs 0).spec c (V0 m c) (fun w => (dats m 0 c).arrAt w (cfgs 0).N) (Proc.devRef .tc main_v5_0) = outG (D c) :=
    (Pipeline.withArrays_arr (cfgs 0).spec launch0.win.arr_inj c (V0 m c) (fun w => (dats m 0 c).arrAt w (cfgs 0).N) 12).trans (final_out (fit c))
  constructor
  · refine ((hr c).2 main_v6 (by decide)).trans ?_
    unfold Pipeline.afterTail₀
    simp only [hostOps1, List.flatten_cons, List.flatten_nil, List.append_nil, StableHlo.after_cons, StableHlo.after_nil]
    after_results_loop
    rw [h12]
    exact row_out
  · exact ((hr c).1 13).trans (final_st (fit c))

end Cert.ReferenceIdeal.Gen

end
-- ==== Proof.Finite.lean ====
module

public import Idealize.ShloMosaic.Lib.Pointwise
public import Idealize.ShloMosaic.Lib.ReduceAll
public import proofs.«01_k».proof.Pre_finite
public import proofs.«01_k».proof.Proof.Model

/-! # The precondition

Where every code is a number and every other argument is finite, the arguments hold real numbers. -/

@[expose] public section

set_option synthInstance.maxSize 4096
set_option maxRecDepth 16384

noncomputable section

namespace Cert.Pre_finite

open Idealize.ShloMosaic
open Cert.Recur

variable [Facts]

/-- A code other than the two that are not numbers has exponent or fraction short of all ones. -/
theorem code_bits : ∀ b : Fin 256, IntOp.cmpi .ne (IntOp.andi ((BitVec.ofFin b : BitVec 8).signExtend 32) 127#32) 127#32 = 1#1 →
    ¬ (((BitVec.ofFin b : BitVec 8).extractLsb' 3 4).toNat = 15 ∧ ((BitVec.ofFin b : BitVec 8).extractLsb' 0 3).toNat = 7) := by
  decide +kernel

/-- Such a code is a real number. -/
theorem code_real (b : BitVec 8) (h : IntOp.cmpi .ne (IntOp.andi (b.signExtend 32) 127#32) 127#32 = 1#1) :
    (Ideal.ofBits .fp8e4m3 b : EReal) = (((Ideal.ofBits .fp8e4m3 b : EReal).toReal : ℝ) : EReal) := by
  have hb := code_bits b.toFin h
  show Ideal.e4m3fn b = ((Ideal.e4m3fn b).toReal : EReal)
  unfold Ideal.e4m3fn
  simp only
  rw [if_neg hb]
  split
  · exact (congrArg _ (EReal.toReal_coe _)).symm
  · exact (congrArg _ (EReal.toReal_coe _)).symm

/-- An element less than infinity in magnitude is a real number. -/
theorem fin_real {s : Shape} (x : FVec Ideal s .f32) {i : s.Idx} {h : S_.BroadcastsInDim s (![] : Fin 0 → Fin s.rank)}
    (e : cmpf .olt (Host.absf x) (broadcastInDim s ![] h (constant (F := Ideal) S_ .f32 0x7F800000#32)) i = 1#1) :
    (x i : EReal) = (((x i : EReal).toReal : ℝ) : EReal) := by
  have h1 : BitVec.ofBool (decide (max (x i : EReal) (-(x i : EReal)) < Ideal.ofBits .f32 0x7F800000#32)) = 1#1 := e
  have h2 : Ideal.ofBits .f32 0x7F800000#32 = (⊤ : EReal) := by simp [Ideal.ofBits, Ideal.ieee]
  rw [h2] at h1
  have h3 : max (x i : EReal) (-(x i : EReal)) < ⊤ := by
    by_contra hn
    rw [decide_eq_false hn] at h1
    exact absurd h1 (by decide)
  have h4 := max_lt_iff.1 h3
  refine (EReal.coe_toReal h4.1.ne ?_).symm
  intro hb
  rw [hb] at h4
  exact absurd h4.2 (by simp)

/-- The arguments' real numbers. -/
def dataOf (A0 : IVec S1x1792x40x64 8) (A1 : FVec Ideal S1x1792x40 .f32) (A2 : IVec S1x1792x40x64 8) (A3 : FVec Ideal S1x1792x40 .f32) (A4 : IVec S1x1792x40x128 8) (A5 : FVec Ideal S1x1792x40 .f32) (A6 : IVec S1x1792x40x64 8) (A7 : FVec Ideal S1x1792x40 .f32) (A8 : IVec S1x1792x40x64 8) (A9 : FVec Ideal S1x1792x40 .f32) (A10 : FVec Ideal S1x1792x40x64 .f32) (A11 : FVec Ideal S1x40x128x64 .f32) : Data where
  rc n h d := (Ideal.ofBits .fp8e4m3 (A0 (ix4 0 n h d)) : EReal).toReal
  rq n h := (A1 (ix3 0 n h) : EReal).toReal
  kc n h d := (Ideal.ofBits .fp8e4m3 (A2 (ix4 0 n h d)) : EReal).toReal
  kq n h := (A3 (ix3 0 n h) : EReal).toReal
  vc n h e := (Ideal.ofBits .fp8e4m3 (A4 (ix4 0 n h e)) : EReal).toReal
  vq n h := (A5 (ix3 0 n h) : EReal).toReal
  ac n h d := (Ideal.ofBits .fp8e4m3 (A6 (ix4 0 n h d)) : EReal).toReal
  aq n h := (A7 (ix3 0 n h) : EReal).toReal
  bc n h d := (Ideal.ofBits .fp8e4m3 (A8 (ix4 0 n h d)) : EReal).toReal
  bq n h := (A9 (ix3 0 n h) : EReal).toReal
  w n h d := (A10 (ix4 0 n h d) : EReal).toReal
  s0 h e d := (A11 (ix4 0 h e d) : EReal).toReal

/-- Under the precondition the arguments hold them. -/
theorem fits (A0 : IVec S1x1792x40x64 8) (A1 : FVec Ideal S1x1792x40 .f32) (A2 : IVec S1x1792x40x64 8) (A3 : FVec Ideal S1x1792x40 .f32) (A4 : IVec S1x1792x40x128 8) (A5 : FVec Ideal S1x1792x40 .f32) (A6 : IVec S1x1792x40x64 8) (A7 : FVec Ideal S1x1792x40 .f32) (A8 : IVec S1x1792x40x64 8) (A9 : FVec Ideal S1x1792x40 .f32) (A10 : FVec Ideal S1x1792x40x64 .f32) (A11 : FVec Ideal S1x40x128x64 .f32)
    (h : fn (F := Ideal) A0 A1 A2 A3 A4 A5 A6 A7 A8 A9 A10 A11 = fun _ => 1#1) : Fits (dataOf A0 A1 A2 A3 A4 A5 A6 A7 A8 A9 A10 A11) A0 A1 A2 A3 A4 A5 A6 A7 A8 A9 A10 A11 := by
  have e := congrFun h ix0
  simp only [fn, fn_part1, fn_part2, fn_part3, fn_part4, andi_apply, IntOp.andi_eq_one] at e
  haveI : Subsingleton S_.Idx := ⟨fun a b => funext fun i => i.elim0⟩
  obtain ⟨⟨⟨⟨⟨⟨⟨⟨⟨⟨⟨⟨-, e0⟩, e2⟩, e4⟩, e6⟩, e8⟩, e1⟩, e3⟩, e5⟩, e7⟩, e9⟩, e10⟩, e11⟩ := e
  exact ⟨fun n h d => code_real _ (Host.reduce_andi_all _ _ _ _ _ e0 (ix4 0 n h d)),
    fun n h => fin_real A1 (Host.reduce_andi_all _ _ _ _ _ e1 (ix3 0 n h)),
    fun n h d => code_real _ (Host.reduce_andi_all _ _ _ _ _ e2 (ix4 0 n h d)),
    fun n h => fin_real A3 (Host.reduce_andi_all _ _ _ _ _ e3 (ix3 0 n h)),
    fun n h d => code_real _ (Host.reduce_andi_all _ _ _ _ _ e4 (ix4 0 n h d)),
    fun n h => fin_real A5 (Host.reduce_andi_all _ _ _ _ _ e5 (ix3 0 n h)),
    fun n h d => code_real _ (Host.reduce_andi_all _ _ _ _ _ e6 (ix4 0 n h d)),
    fun n h => fin_real A7 (Host.reduce_andi_all _ _ _ _ _ e7 (ix3 0 n h)),
    fun n h d => code_real _ (Host.reduce_andi_all _ _ _ _ _ e8 (ix4 0 n h d)),
    fun n h => fin_real A9 (Host.reduce_andi_all _ _ _ _ _ e9 (ix3 0 n h)),
    fun n h d => fin_real A10 (Host.reduce_andi_all _ _ _ _ _ e10 (ix4 0 n h d)),
    fun n h d => fin_real A11 (Host.reduce_andi_all _ _ _ _ _ e11 (ix4 0 n h d))⟩

end Cert.Pre_finite

end
-- ==== Proof.Equal.lean ====
module

public import proofs.«01_k».proof.Defs
public import proofs.«01_k».proof.Proof.Gen.Pre_finite
public import proofs.«01_k».proof.Proof.KFinal
public import proofs.«01_k».proof.Proof.RFinal
public import proofs.«01_k».proof.Proof.Finite

/-! # The kernel equals the reference

Both end with the recurrence's outputs and last states over the real numbers the arguments hold. -/

@[expose] public section

set_option synthInstance.maxSize 4096
set_option maxRecDepth 16384

noncomputable section

namespace Cert.Proof

open Idealize.ShloMosaic Idealize.SL.Sem
open Cert.Recur

/-- The real numbers device `c`'s arguments hold. -/
def held (m : (ℓ : Loc Cert.KernelIdeal.nD Cert.KernelIdeal.τ Cert.KernelIdeal.sig) → Buf (Elt Ideal) ℓ) (c : Dev Cert.KernelIdeal.nD) : Data :=
  Cert.Pre_finite.dataOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- Under the precondition, every argument of the kernel holds the real numbers of `held`. -/
theorem held_fits (m : (ℓ : Loc Cert.KernelIdeal.nD Cert.KernelIdeal.τ Cert.KernelIdeal.sig) → Buf (Elt Ideal) ℓ)
    (h : Pre_KernelIdeal_finite m) (c : Dev Cert.KernelIdeal.nD) : Cert.KernelIdeal.Gen.FitsAt m (held m c) c :=
  Cert.Pre_finite.fits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (h c)

/-- From the same arguments, all finite, both results of the kernel equal those of the reference. -/
theorem equal : algebraic_KernelIdeal_ReferenceIdeal_pre_finite := by
  intro m g m' g' hpre hag
  have hfit := held_fits m hpre
  have hfit' : ∀ c, Cert.ReferenceIdeal.Gen.FitsAt m' (held m c) c := fun c => by
    obtain ⟨a0, a1, a2, a3, a4, a5, a6, a7, a8, a9, a10, a11⟩ := hag c
    unfold Cert.ReferenceIdeal.Gen.FitsAt
    rw [a0, a1, a2, a3, a4, a5, a6, a7, a8, a9, a10, a11]
    exact hfit c
  refine ⟨fun c => (held m c).outArr, fun c => (held m c).stArr, ?_, ?_⟩
  · exact (θ_run _ _ _).mono (fun r hr c => ⟨(hr.1 c).1, (hr.1 c).2, hr.2 c⟩)
      (θ_run_and (Cert.KernelIdeal.Gen.run_values g (held m) hfit) (Cert.KernelIdeal.Gen.unchanged m g))
  · exact (θ_run _ _ _).mono (fun r hr c => ⟨(hr.1 c).1, (hr.1 c).2, hr.2 c⟩)
      (θ_run_and (Cert.ReferenceIdeal.Gen.run_values g' (held m) hfit') (Cert.ReferenceIdeal.Gen.unchanged m' g'))

end Cert.Proof

end
-- ==== Proof.lean ====
module

public import proofs.«01_k».proof.Defs
public import proofs.«01_k».proof.Proof.KGrid
public import proofs.«01_k».proof.Proof.Grid
public import proofs.«01_k».proof.Proof.Gen.ReferenceIdeal.Frame
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  IdealRules.named_const.statement Cert.KernelIdeal.κ "log2e" .f32 0x3FB8AA3B#32 (((Real.log 2)⁻¹ : ℝ) : EReal) rfl,
  equal⟩

end Cert.Proof

end
